-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ preserves_Kernel_KernelIdeal
    ∧ algebraic_KernelIdeal_ReferenceIdeal_pre_finite_logits (hKernelIdeal := hKernelIdeal) (hReferenceIdeal := hReferenceIdeal) (hPre_finite_logits := hPre_finite_logits)
-- ==== Pre_finite_logits.lean ====
abbrev S128x100000 : Shape := ⟨2, ![128, 100000]⟩
abbrev S_ : Shape := ⟨0, ![]⟩

class Facts : Prop where
  bcast_S_S128x100000 : S_.BroadcastsInDim S128x100000 (![] : Fin 0 → Fin S128x100000.rank)
  reducesTo_S128x100000_S_d0_1 : S128x100000.ReducesTo [0, 1] S_
  h_S_ : 0 < S_.numel

variable [Facts]

def fn {F : FTy → Type} [FloatOps F] (main_arg0 : FVec F S128x100000 .f32) : IVec S_ 1 :=
  let main_v0 : FVec F S128x100000 .f32 := Host.absf main_arg0
  let main_cst : FVec F S_ .f32 := constant S_ .f32 0x7F800000#32
  let main_v1 : FVec F S128x100000 .f32 := broadcastInDim S128x100000 ![] bcast_S_S128x100000 main_cst
  let main_v2 : IVec S128x100000 1 := cmpf .olt main_v0 main_v1
  let main_c : IVec S_ 1 := constantI S_ 1 1#1
  let main_v3 : IVec S_ 1 := (fun x v => Host.reduce IntOp.andi x v reducesTo_S128x100000_S_d0_1 h_S_) main_v2 main_c
  main_v3
-- ==== Kernel.lean ====
abbrev S128x100000 : Shape := ⟨2, ![128, 100000]⟩
abbrev S16x100352 : Shape := ⟨2, ![16, 100352]⟩
abbrev S16x512 : Shape := ⟨2, ![16, 512]⟩
abbrev S16x1 : Shape := ⟨2, ![16, 1]⟩
abbrev S16 : Shape := ⟨1, ![16]⟩

abbrev nBuf : Space → Nat
  | .hbm => 2
  | .vmem => 4
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .local _ .vmem, ⟨0, _⟩ => ⟨S16x100352, .f32⟩
  | .local _ .vmem, ⟨1, _⟩ => ⟨S16x100352, .f32⟩
  | .local _ .vmem, ⟨2, _⟩ => ⟨S16x100352, .f32⟩
  | .local _ .vmem, ⟨3, _⟩ => ⟨S16x100352, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_0 : BitVec 32 := 0#32
  let c195_i32 : BitVec 32 := 195#32
  let v13 : BitVec 32 := Scalar.addi c0_i32_0 c195_i32
  let c1_i32_1 : BitVec 32 := 1#32
  ⟨c0_i32_0, v13, c1_i32_1⟩
def k0_off1 (k0_t1 : Fin k0_t1_loop.trips) : Fin 2 → Nat :=
  let c0_117 : Index := 0#32
  let c0_i32_0 : BitVec 32 := 0#32
  let c1_i32_1 : BitVec 32 := 1#32
  let arg3 : BitVec 32 := Scf.iv c0_i32_0 c1_i32_1 k0_t1
  let c512_i32_116 : BitVec 32 := 512#32
  let v403 : BitVec 32 := Scalar.muli arg3 c512_i32_116
  let v404 : Index := Scalar.indexCast v403
  ![0, v404.toNat]
@[reducible] def k0_t2_loop : Scf.Loop 32 :=
  let c0_i32_53 : BitVec 32 := 0#32
  let c196_i32 : BitVec 32 := 196#32
  let v220 : BitVec 32 := Scalar.addi c0_i32_53 c196_i32
  let c1_i32_54 : BitVec 32 := 1#32
  ⟨c0_i32_53, v220, c1_i32_54⟩
def k0_off2 (k0_t2 : Fin k0_t2_loop.trips) : Fin 2 → Nat :=
  let c0_60 : Index := 0#32
  let c0_i32_53 : BitVec 32 := 0#32
  let c1_i32_54 : BitVec 32 := 1#32
  let arg3 : BitVec 32 := Scf.iv c0_i32_53 c1_i32_54 k0_t2
  let c512_i32_59 : BitVec 32 := 512#32
  let v229 : BitVec 32 := Scalar.muli arg3 c512_i32_59
  let v230 : Index := Scalar.indexCast v229
  ![0, v230.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x100352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x100352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S128x100000 : Shape := ⟨2, ![128, 100000]⟩
abbrev S_ : Shape := ⟨0, ![]⟩
abbrev S1 : Shape := ⟨1, ![1]⟩
abbrev S2 : Shape := ⟨1, ![2]⟩
abbrev S1x1 : Shape := ⟨2, ![1, 1]⟩
abbrev S128 : Shape := ⟨1, ![128]⟩
abbrev S128x1 : Shape := ⟨2, ![128, 1]⟩
abbrev S128x2 : Shape := ⟨2, ![128, 2]⟩

abbrev nBuf : Space → Nat
  | .hbm => 332
  | .vmem => 0
  | .smem => 0
  | _ => 0

abbrev hbmTy0_0 (i : Nat) : BufTy := match i % 128 with
  | 0 => ⟨S128x100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1, .f32⟩
  | 16 => ⟨S1x1, .f32⟩
  | 17 => ⟨S1, .i32⟩
  | 18 => ⟨S_, .i32⟩
  | 19 => ⟨S1, .i32⟩
  | 20 => ⟨S_, .i32⟩
  | 21 => ⟨S128x100000, .i64⟩
  | 22 => ⟨S128x100000, .i64⟩
  | 23 => ⟨S_, .i64⟩
  | 24 => ⟨S128x100000, .i64⟩
  | 25 => ⟨S128x100000, .i64⟩
  | 26 => ⟨S_, .i64⟩
  | 27 => ⟨S128x100000, .i64⟩
  | 28 => ⟨S128x100000, .i64⟩
  | 29 => ⟨S128x100000, .i64⟩
  | 30 => ⟨S_, .i64⟩
  | 31 => ⟨S128x100000, .i64⟩
  | 32 => ⟨S128x100000, .i64⟩
  | 33 => ⟨S128x100000, .i32⟩
  | 34 => ⟨S128x100000, .i32⟩
  | 35 => ⟨S_, .i32⟩
  | 36 => ⟨S_, .i32⟩
  | 37 => ⟨S_, .i32⟩
  | 38 => ⟨S128x100000, .i32⟩
  | 39 => ⟨S128x100000, .i32⟩
  | 40 => ⟨S128x100000, .i32⟩
  | 41 => ⟨S128x100000, .i32⟩
  | 42 => ⟨S128x100000, .i32⟩
  | 43 => ⟨S_, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S128x100000, .i32⟩
  | 50 => ⟨S128x100000, .i32⟩
  | 51 => ⟨S128x100000, .i32⟩
  | 52 => ⟨S_, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S128x100000, .i32⟩
  | 59 => ⟨S128x100000, .i32⟩
  | 60 => ⟨S128x100000, .i32⟩
  | 61 => ⟨S_, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S128x100000, .i32⟩
  | 68 => ⟨S128x100000, .i32⟩
  | 69 => ⟨S128x100000, .i32⟩
  | 70 => ⟨S_, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S_, .i32⟩
  | 83 => ⟨S128x100000, .i32⟩
  | 84 => ⟨S128x100000, .i32⟩
  | 85 => ⟨S128x100000, .i32⟩
  | 86 => ⟨S_, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S128x100000, .i32⟩
  | 93 => ⟨S128x100000, .i32⟩
  | 94 => ⟨S128x100000, .i32⟩
  | 95 => ⟨S_, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S_, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S128x100000, .i32⟩
  | 111 => ⟨S128x100000, .i32⟩
  | 112 => ⟨S128x100000, .i32⟩
  | 113 => ⟨S_, .i32⟩
  | 114 => ⟨S128x100000, .i32⟩
  | 115 => ⟨S128x100000, .i32⟩
  | 116 => ⟨S_, .i32⟩
  | 117 => ⟨S128x100000, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S_, .i32⟩
  | 126 => ⟨S128x100000, .i32⟩
  | 127 => ⟨S128x100000, .i32⟩
  | _ => ⟨S128x100000, .f32⟩

abbrev hbmTy0_1 (i : Nat) : BufTy := match i % 128 with
  | 0 => ⟨S128x100000, .i32⟩
  | 1 => ⟨S_, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S128x100000, .i32⟩
  | 8 => ⟨S128x100000, .i32⟩
  | 9 => ⟨S128x100000, .i32⟩
  | 10 => ⟨S_, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S128x100000, .i32⟩
  | 17 => ⟨S128x100000, .i32⟩
  | 18 => ⟨S128x100000, .i32⟩
  | 19 => ⟨S_, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S128x100000, .i32⟩
  | 26 => ⟨S128x100000, .i32⟩
  | 27 => ⟨S128x100000, .i32⟩
  | 28 => ⟨S_, .i32⟩
  | 29 => ⟨S128x100000, .i32⟩
  | 30 => ⟨S128x100000, .i32⟩
  | 31 => ⟨S_, .i32⟩
  | 32 => ⟨S128x100000, .i32⟩
  | 33 => ⟨S128x100000, .i32⟩
  | 34 => ⟨S128x100000, .i32⟩
  | 35 => ⟨S128x100000, .i32⟩
  | 36 => ⟨S128x100000, .i32⟩
  | 37 => ⟨S128x100000, .i32⟩
  | 38 => ⟨S128x100000, .i32⟩
  | 39 => ⟨S128x100000, .i32⟩
  | 40 => ⟨S_, .i32⟩
  | 41 => ⟨S128x100000, .i32⟩
  | 42 => ⟨S128x100000, .i32⟩
  | 43 => ⟨S128x100000, .i32⟩
  | 44 => ⟨S_, .i32⟩
  | 45 => ⟨S128x100000, .i32⟩
  | 46 => ⟨S128x100000, .i32⟩
  | 47 => ⟨S_, .i32⟩
  | 48 => ⟨S128x100000, .i32⟩
  | 49 => ⟨S128x100000, .i32⟩
  | 50 => ⟨S128x100000, .i32⟩
  | 51 => ⟨S128x100000, .i32⟩
  | 52 => ⟨S128x100000, .i32⟩
  | 53 => ⟨S_, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S128x100000, .i32⟩
  | 60 => ⟨S128x100000, .i32⟩
  | 61 => ⟨S128x100000, .i32⟩
  | 62 => ⟨S_, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S128x100000, .i32⟩
  | 69 => ⟨S128x100000, .i32⟩
  | 70 => ⟨S128x100000, .i32⟩
  | 71 => ⟨S_, .i32⟩
  | 72 => ⟨S128x100000, .i32⟩
  | 73 => ⟨S128x100000, .i32⟩
  | 74 => ⟨S_, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S128x100000, .i32⟩
  | 87 => ⟨S_, .i32⟩
  | 88 => ⟨S128x100000, .i32⟩
  | 89 => ⟨S128x100000, .i32⟩
  | 90 => ⟨S_, .i32⟩
  | 91 => ⟨S128x100000, .i32⟩
  | 92 => ⟨S128x100000, .i32⟩
  | 93 => ⟨S128x100000, .i32⟩
  | 94 => ⟨S128x100000, .i32⟩
  | 95 => ⟨S128x100000, .i32⟩
  | 96 => ⟨S_, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S128x100000, .i32⟩
  | 103 => ⟨S128x100000, .i32⟩
  | 104 => ⟨S128x100000, .i32⟩
  | 105 => ⟨S_, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S128x100000, .i32⟩
  | 112 => ⟨S128x100000, .i32⟩
  | 113 => ⟨S128x100000, .i32⟩
  | 114 => ⟨S_, .i32⟩
  | 115 => ⟨S128x100000, .i32⟩
  | 116 => ⟨S128x100000, .i32⟩
  | 117 => ⟨S_, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S128x100000, .i32⟩
  | 126 => ⟨S_, .i32⟩
  | 127 => ⟨S128x100000, .i32⟩
  | _ => ⟨S128x100000, .f32⟩

abbrev hbmTy0_2 (i : Nat) : BufTy := match i % 128 with
  | 0 => ⟨S128x100000, .i32⟩
  | 1 => ⟨S128x100000, .i32⟩
  | 2 => ⟨S_, .i32⟩
  | 3 => ⟨S128x100000, .i32⟩
  | 4 => ⟨S128x100000, .i32⟩
  | 5 => ⟨S_, .i32⟩
  | 6 => ⟨S128x100000, .i32⟩
  | 7 => ⟨S128x100000, .i32⟩
  | 8 => ⟨S128x100000, .f32⟩
  | 9 => ⟨S_, .f32⟩
  | 10 => ⟨S128x100000, .f32⟩
  | 11 => ⟨S128x100000, .f32⟩
  | 12 => ⟨S1x1, .f32⟩
  | 13 => ⟨S128x100000, .f32⟩
  | 14 => ⟨S128x100000, .f32⟩
  | 15 => ⟨S128x100000, .f32⟩
  | 16 => ⟨S128x100000, .f32⟩
  | 17 => ⟨S128x100000, .f32⟩
  | 18 => ⟨S128x100000, .f32⟩
  | 19 => ⟨S_, .f32⟩
  | 20 => ⟨S128x100000, .f32⟩
  | 21 => ⟨S128x100000, .f32⟩
  | 22 => ⟨S128x100000, .f32⟩
  | 23 => ⟨S_, .f32⟩
  | 24 => ⟨S128x100000, .f32⟩
  | 25 => ⟨S128x100000, .f32⟩
  | 26 => ⟨S128x100000, .f32⟩
  | 27 => ⟨S128x100000, .f32⟩
  | 28 => ⟨S128x100000, .f32⟩
  | 29 => ⟨S_, .f32⟩
  | 30 => ⟨S128x100000, .f32⟩
  | 31 => ⟨S128x100000, .f32⟩
  | 32 => ⟨S_, .f32⟩
  | 33 => ⟨S128, .f32⟩
  | 34 => ⟨S_, .f32⟩
  | 35 => ⟨S128, .f32⟩
  | 36 => ⟨S128, .f32⟩
  | 37 => ⟨S128x1, .f32⟩
  | 38 => ⟨S128x100000, .f32⟩
  | 39 => ⟨S128x100000, .f32⟩
  | 40 => ⟨S128x100000, .f32⟩
  | 41 => ⟨S_, .f32⟩
  | 42 => ⟨S128, .f32⟩
  | 43 => ⟨S128x1, .f32⟩
  | 44 => ⟨S128x100000, .f32⟩
  | 45 => ⟨S128x100000, .f32⟩
  | 46 => ⟨S128x100000, .i32⟩
  | 47 => ⟨S_, .f32⟩
  | 48 => ⟨S_, .i32⟩
  | 49 => ⟨S128, .f32⟩
  | 50 => ⟨S128, .i32⟩
  | 51 => ⟨S_, .f32⟩
  | 52 => ⟨S128x100000, .f32⟩
  | 53 => ⟨S128, .i32⟩
  | 54 => ⟨S_, .i32⟩
  | 55 => ⟨S128, .i32⟩
  | 56 => ⟨S128, .i1⟩
  | 57 => ⟨S_, .i32⟩
  | 58 => ⟨S128, .i32⟩
  | 59 => ⟨S128, .i32⟩
  | 60 => ⟨S128, .i32⟩
  | 61 => ⟨S_, .i32⟩
  | 62 => ⟨S128, .i32⟩
  | 63 => ⟨S128, .i1⟩
  | 64 => ⟨S_, .i32⟩
  | 65 => ⟨S128, .i32⟩
  | 66 => ⟨S128, .i32⟩
  | 67 => ⟨S128, .i32⟩
  | 68 => ⟨S128x1, .i32⟩
  | 69 => ⟨S128x1, .i32⟩
  | 70 => ⟨S128x2, .i32⟩
  | 71 => ⟨S_, .f32⟩
  | 72 => ⟨S128, .f32⟩
  | 73 => ⟨S128x100000, .f32⟩
  | 74 => ⟨S128x100000, .f32⟩
  | 75 => ⟨S128x100000, .f32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_c : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_c_1 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_call0_v0 : Ref sig .tc := ⟨.hbm, 35, rfl⟩
abbrev main_call0_call0_c : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_c_0 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_c_1 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_call0_v12 : Ref sig .tc := ⟨.hbm, 50, rfl⟩
abbrev main_call0_call0_v13 : Ref sig .tc := ⟨.hbm, 51, rfl⟩
abbrev main_call0_call0_c_2 : Ref sig .tc := ⟨.hbm, 52, rfl⟩
abbrev main_call0_call0_v14 : Ref sig .tc := ⟨.hbm, 53, rfl⟩
abbrev main_call0_call0_v15 : Ref sig .tc := ⟨.hbm, 54, rfl⟩
abbrev main_call0_call0_c_3 : Ref sig .tc := ⟨.hbm, 55, rfl⟩
abbrev main_call0_call0_v16 : Ref sig .tc := ⟨.hbm, 56, rfl⟩
abbrev main_call0_call0_v17 : Ref sig .tc := ⟨.hbm, 57, rfl⟩
abbrev main_call0_call0_v18 : Ref sig .tc := ⟨.hbm, 58, rfl⟩
abbrev main_call0_call0_v19 : Ref sig .tc := ⟨.hbm, 59, rfl⟩
abbrev main_call0_call0_v20 : Ref sig .tc := ⟨.hbm, 60, rfl⟩
abbrev main_call0_call0_c_4 : Ref sig .tc := ⟨.hbm, 61, rfl⟩
abbrev main_call0_call0_v21 : Ref sig .tc := ⟨.hbm, 62, rfl⟩
abbrev main_call0_call0_v22 : Ref sig .tc := ⟨.hbm, 63, rfl⟩
abbrev main_call0_call0_c_5 : Ref sig .tc := ⟨.hbm, 64, rfl⟩
abbrev main_call0_call0_v23 : Ref sig .tc := ⟨.hbm, 65, rfl⟩
abbrev main_call0_call0_v24 : Ref sig .tc := ⟨.hbm, 66, rfl⟩
abbrev main_call0_call0_v25 : Ref sig .tc := ⟨.hbm, 67, rfl⟩
abbrev main_call0_call0_v26 : Ref sig .tc := ⟨.hbm, 68, rfl⟩
abbrev main_call0_call0_v27 : Ref sig .tc := ⟨.hbm, 69, rfl⟩
abbrev main_call0_call0_c_6 : Ref sig .tc := ⟨.hbm, 70, rfl⟩
abbrev main_call0_call0_v28 : Ref sig .tc := ⟨.hbm, 71, rfl⟩
abbrev main_call0_call0_v29 : Ref sig .tc := ⟨.hbm, 72, rfl⟩
abbrev main_call0_call0_c_7 : Ref sig .tc := ⟨.hbm, 73, rfl⟩
abbrev main_call0_call0_v30 : Ref sig .tc := ⟨.hbm, 74, rfl⟩
abbrev main_call0_call0_v31 : Ref sig .tc := ⟨.hbm, 75, rfl⟩
abbrev main_call0_call0_v32 : Ref sig .tc := ⟨.hbm, 76, rfl⟩
abbrev main_call0_call0_v33 : Ref sig .tc := ⟨.hbm, 77, rfl⟩
abbrev main_call0_call0_v34 : Ref sig .tc := ⟨.hbm, 78, rfl⟩
abbrev main_call0_call0_v35 : Ref sig .tc := ⟨.hbm, 79, rfl⟩
abbrev main_call0_call0_v36 : Ref sig .tc := ⟨.hbm, 80, rfl⟩
abbrev main_call0_call0_v37 : Ref sig .tc := ⟨.hbm, 81, rfl⟩
abbrev main_call0_call0_c_8 : Ref sig .tc := ⟨.hbm, 82, rfl⟩
abbrev main_call0_call0_v38 : Ref sig .tc := ⟨.hbm, 83, rfl⟩
abbrev main_call0_call0_v39 : Ref sig .tc := ⟨.hbm, 84, rfl⟩
abbrev main_call0_call0_v40 : Ref sig .tc := ⟨.hbm, 85, rfl⟩
abbrev main_call0_call0_c_9 : Ref sig .tc := ⟨.hbm, 86, rfl⟩
abbrev main_call0_call0_v41 : Ref sig .tc := ⟨.hbm, 87, rfl⟩
abbrev main_call0_call0_v42 : Ref sig .tc := ⟨.hbm, 88, rfl⟩
abbrev main_call0_call0_c_10 : Ref sig .tc := ⟨.hbm, 89, rfl⟩
abbrev main_call0_call0_v43 : Ref sig .tc := ⟨.hbm, 90, rfl⟩
abbrev main_call0_call0_v44 : Ref sig .tc := ⟨.hbm, 91, rfl⟩
abbrev main_call0_call0_v45 : Ref sig .tc := ⟨.hbm, 92, rfl⟩
abbrev main_call0_call0_v46 : Ref sig .tc := ⟨.hbm, 93, rfl⟩
abbrev main_call0_call0_v47 : Ref sig .tc := ⟨.hbm, 94, rfl⟩
abbrev main_call0_call0_c_11 : Ref sig .tc := ⟨.hbm, 95, rfl⟩
abbrev main_call0_call0_v48 : Ref sig .tc := ⟨.hbm, 96, rfl⟩
abbrev main_call0_call0_v49 : Ref sig .tc := ⟨.hbm, 97, rfl⟩
abbrev main_call0_call0_c_12 : Ref sig .tc := ⟨.hbm, 98, rfl⟩
abbrev main_call0_call0_v50 : Ref sig .tc := ⟨.hbm, 99, rfl⟩
abbrev main_call0_call0_v51 : Ref sig .tc := ⟨.hbm, 100, rfl⟩
abbrev main_call0_call0_v52 : Ref sig .tc := ⟨.hbm, 101, rfl⟩
abbrev main_call0_call0_v53 : Ref sig .tc := ⟨.hbm, 102, rfl⟩
abbrev main_call0_call0_v54 : Ref sig .tc := ⟨.hbm, 103, rfl⟩
abbrev main_call0_call0_c_13 : Ref sig .tc := ⟨.hbm, 104, rfl⟩
abbrev main_call0_call0_v55 : Ref sig .tc := ⟨.hbm, 105, rfl⟩
abbrev main_call0_call0_v56 : Ref sig .tc := ⟨.hbm, 106, rfl⟩
abbrev main_call0_call0_c_14 : Ref sig .tc := ⟨.hbm, 107, rfl⟩
abbrev main_call0_call0_v57 : Ref sig .tc := ⟨.hbm, 108, rfl⟩
abbrev main_call0_call0_v58 : Ref sig .tc := ⟨.hbm, 109, rfl⟩
abbrev main_call0_call0_v59 : Ref sig .tc := ⟨.hbm, 110, rfl⟩
abbrev main_call0_call0_v60 : Ref sig .tc := ⟨.hbm, 111, rfl⟩
abbrev main_call0_call0_v61 : Ref sig .tc := ⟨.hbm, 112, rfl⟩
abbrev main_call0_call0_c_15 : Ref sig .tc := ⟨.hbm, 113, rfl⟩
abbrev main_call0_call0_v62 : Ref sig .tc := ⟨.hbm, 114, rfl⟩
abbrev main_call0_call0_v63 : Ref sig .tc := ⟨.hbm, 115, rfl⟩
abbrev main_call0_call0_c_16 : Ref sig .tc := ⟨.hbm, 116, rfl⟩
abbrev main_call0_call0_v64 : Ref sig .tc := ⟨.hbm, 117, rfl⟩
abbrev main_call0_call0_v65 : Ref sig .tc := ⟨.hbm, 118, rfl⟩
abbrev main_call0_call0_v66 : Ref sig .tc := ⟨.hbm, 119, rfl⟩
abbrev main_call0_call0_v67 : Ref sig .tc := ⟨.hbm, 120, rfl⟩
abbrev main_call0_call0_v68 : Ref sig .tc := ⟨.hbm, 121, rfl⟩
abbrev main_call0_call0_v69 : Ref sig .tc := ⟨.hbm, 122, rfl⟩
abbrev main_call0_call0_v70 : Ref sig .tc := ⟨.hbm, 123, rfl⟩
abbrev main_call0_call0_v71 : Ref sig .tc := ⟨.hbm, 124, rfl⟩
abbrev main_call0_call0_c_17 : Ref sig .tc := ⟨.hbm, 125, rfl⟩
abbrev main_call0_call0_v72 : Ref sig .tc := ⟨.hbm, 126, rfl⟩
abbrev main_call0_call0_v73 : Ref sig .tc := ⟨.hbm, 127, rfl⟩
abbrev main_call0_call0_v74 : Ref sig .tc := ⟨.hbm, 128, rfl⟩
abbrev main_call0_call0_c_18 : Ref sig .tc := ⟨.hbm, 129, rfl⟩
abbrev main_call0_call0_v75 : Ref sig .tc := ⟨.hbm, 130, rfl⟩
abbrev main_call0_call0_v76 : Ref sig .tc := ⟨.hbm, 131, rfl⟩
abbrev main_call0_call0_c_19 : Ref sig .tc := ⟨.hbm, 132, rfl⟩
abbrev main_call0_call0_v77 : Ref sig .tc := ⟨.hbm, 133, rfl⟩
abbrev main_call0_call0_v78 : Ref sig .tc := ⟨.hbm, 134, rfl⟩
abbrev main_call0_call0_v79 : Ref sig .tc := ⟨.hbm, 135, rfl⟩
abbrev main_call0_call0_v80 : Ref sig .tc := ⟨.hbm, 136, rfl⟩
abbrev main_call0_call0_v81 : Ref sig .tc := ⟨.hbm, 137, rfl⟩
abbrev main_call0_call0_c_20 : Ref sig .tc := ⟨.hbm, 138, rfl⟩
abbrev main_call0_call0_v82 : Ref sig .tc := ⟨.hbm, 139, rfl⟩
abbrev main_call0_call0_v83 : Ref sig .tc := ⟨.hbm, 140, rfl⟩
abbrev main_call0_call0_c_21 : Ref sig .tc := ⟨.hbm, 141, rfl⟩
abbrev main_call0_call0_v84 : Ref sig .tc := ⟨.hbm, 142, rfl⟩
abbrev main_call0_call0_v85 : Ref sig .tc := ⟨.hbm, 143, rfl⟩
abbrev main_call0_call0_v86 : Ref sig .tc := ⟨.hbm, 144, rfl⟩
abbrev main_call0_call0_v87 : Ref sig .tc := ⟨.hbm, 145, rfl⟩
abbrev main_call0_call0_v88 : Ref sig .tc := ⟨.hbm, 146, rfl⟩
abbrev main_call0_call0_c_22 : Ref sig .tc := ⟨.hbm, 147, rfl⟩
abbrev main_call0_call0_v89 : Ref sig .tc := ⟨.hbm, 148, rfl⟩
abbrev main_call0_call0_v90 : Ref sig .tc := ⟨.hbm, 149, rfl⟩
abbrev main_call0_call0_c_23 : Ref sig .tc := ⟨.hbm, 150, rfl⟩
abbrev main_call0_call0_v91 : Ref sig .tc := ⟨.hbm, 151, rfl⟩
abbrev main_call0_call0_v92 : Ref sig .tc := ⟨.hbm, 152, rfl⟩
abbrev main_call0_call0_v93 : Ref sig .tc := ⟨.hbm, 153, rfl⟩
abbrev main_call0_call0_v94 : Ref sig .tc := ⟨.hbm, 154, rfl⟩
abbrev main_call0_call0_v95 : Ref sig .tc := ⟨.hbm, 155, rfl⟩
abbrev main_call0_call0_c_24 : Ref sig .tc := ⟨.hbm, 156, rfl⟩
abbrev main_call0_call0_v96 : Ref sig .tc := ⟨.hbm, 157, rfl⟩
abbrev main_call0_call0_v97 : Ref sig .tc := ⟨.hbm, 158, rfl⟩
abbrev main_call0_call0_c_25 : Ref sig .tc := ⟨.hbm, 159, rfl⟩
abbrev main_call0_call0_v98 : Ref sig .tc := ⟨.hbm, 160, rfl⟩
abbrev main_call0_call0_v99 : Ref sig .tc := ⟨.hbm, 161, rfl⟩
abbrev main_call0_call0_v100 : Ref sig .tc := ⟨.hbm, 162, rfl⟩
abbrev main_call0_call0_v101 : Ref sig .tc := ⟨.hbm, 163, rfl⟩
abbrev main_call0_call0_v102 : Ref sig .tc := ⟨.hbm, 164, rfl⟩
abbrev main_call0_call0_v103 : Ref sig .tc := ⟨.hbm, 165, rfl⟩
abbrev main_call0_call0_v104 : Ref sig .tc := ⟨.hbm, 166, rfl⟩
abbrev main_call0_call0_v105 : Ref sig .tc := ⟨.hbm, 167, rfl⟩
abbrev main_call0_call0_c_26 : Ref sig .tc := ⟨.hbm, 168, rfl⟩
abbrev main_call0_call0_v106 : Ref sig .tc := ⟨.hbm, 169, rfl⟩
abbrev main_call0_call0_v107 : Ref sig .tc := ⟨.hbm, 170, rfl⟩
abbrev main_call0_call0_v108 : Ref sig .tc := ⟨.hbm, 171, rfl⟩
abbrev main_call0_call0_c_27 : Ref sig .tc := ⟨.hbm, 172, rfl⟩
abbrev main_call0_call0_v109 : Ref sig .tc := ⟨.hbm, 173, rfl⟩
abbrev main_call0_call0_v110 : Ref sig .tc := ⟨.hbm, 174, rfl⟩
abbrev main_call0_call0_c_28 : Ref sig .tc := ⟨.hbm, 175, rfl⟩
abbrev main_call0_call0_v111 : Ref sig .tc := ⟨.hbm, 176, rfl⟩
abbrev main_call0_call0_v112 : Ref sig .tc := ⟨.hbm, 177, rfl⟩
abbrev main_call0_call0_v113 : Ref sig .tc := ⟨.hbm, 178, rfl⟩
abbrev main_call0_call0_v114 : Ref sig .tc := ⟨.hbm, 179, rfl⟩
abbrev main_call0_call0_v115 : Ref sig .tc := ⟨.hbm, 180, rfl⟩
abbrev main_call0_call0_c_29 : Ref sig .tc := ⟨.hbm, 181, rfl⟩
abbrev main_call0_call0_v116 : Ref sig .tc := ⟨.hbm, 182, rfl⟩
abbrev main_call0_call0_v117 : Ref sig .tc := ⟨.hbm, 183, rfl⟩
abbrev main_call0_call0_c_30 : Ref sig .tc := ⟨.hbm, 184, rfl⟩
abbrev main_call0_call0_v118 : Ref sig .tc := ⟨.hbm, 185, rfl⟩
abbrev main_call0_call0_v119 : Ref sig .tc := ⟨.hbm, 186, rfl⟩
abbrev main_call0_call0_v120 : Ref sig .tc := ⟨.hbm, 187, rfl⟩
abbrev main_call0_call0_v121 : Ref sig .tc := ⟨.hbm, 188, rfl⟩
abbrev main_call0_call0_v122 : Ref sig .tc := ⟨.hbm, 189, rfl⟩
abbrev main_call0_call0_c_31 : Ref sig .tc := ⟨.hbm, 190, rfl⟩
abbrev main_call0_call0_v123 : Ref sig .tc := ⟨.hbm, 191, rfl⟩
abbrev main_call0_call0_v124 : Ref sig .tc := ⟨.hbm, 192, rfl⟩
abbrev main_call0_call0_c_32 : Ref sig .tc := ⟨.hbm, 193, rfl⟩
abbrev main_call0_call0_v125 : Ref sig .tc := ⟨.hbm, 194, rfl⟩
abbrev main_call0_call0_v126 : Ref sig .tc := ⟨.hbm, 195, rfl⟩
abbrev main_call0_call0_v127 : Ref sig .tc := ⟨.hbm, 196, rfl⟩
abbrev main_call0_call0_v128 : Ref sig .tc := ⟨.hbm, 197, rfl⟩
abbrev main_call0_call0_v129 : Ref sig .tc := ⟨.hbm, 198, rfl⟩
abbrev main_call0_call0_c_33 : Ref sig .tc := ⟨.hbm, 199, rfl⟩
abbrev main_call0_call0_v130 : Ref sig .tc := ⟨.hbm, 200, rfl⟩
abbrev main_call0_call0_v131 : Ref sig .tc := ⟨.hbm, 201, rfl⟩
abbrev main_call0_call0_c_34 : Ref sig .tc := ⟨.hbm, 202, rfl⟩
abbrev main_call0_call0_v132 : Ref sig .tc := ⟨.hbm, 203, rfl⟩
abbrev main_call0_call0_v133 : Ref sig .tc := ⟨.hbm, 204, rfl⟩
abbrev main_call0_call0_v134 : Ref sig .tc := ⟨.hbm, 205, rfl⟩
abbrev main_call0_call0_v135 : Ref sig .tc := ⟨.hbm, 206, rfl⟩
abbrev main_call0_call0_v136 : Ref sig .tc := ⟨.hbm, 207, rfl⟩
abbrev main_call0_call0_v137 : Ref sig .tc := ⟨.hbm, 208, rfl⟩
abbrev main_call0_call0_v138 : Ref sig .tc := ⟨.hbm, 209, rfl⟩
abbrev main_call0_call0_v139 : Ref sig .tc := ⟨.hbm, 210, rfl⟩
abbrev main_call0_call0_c_35 : Ref sig .tc := ⟨.hbm, 211, rfl⟩
abbrev main_call0_call0_v140 : Ref sig .tc := ⟨.hbm, 212, rfl⟩
abbrev main_call0_call0_v141 : Ref sig .tc := ⟨.hbm, 213, rfl⟩
abbrev main_call0_call0_v142 : Ref sig .tc := ⟨.hbm, 214, rfl⟩
abbrev main_call0_call0_c_36 : Ref sig .tc := ⟨.hbm, 215, rfl⟩
abbrev main_call0_call0_v143 : Ref sig .tc := ⟨.hbm, 216, rfl⟩
abbrev main_call0_call0_v144 : Ref sig .tc := ⟨.hbm, 217, rfl⟩
abbrev main_call0_call0_c_37 : Ref sig .tc := ⟨.hbm, 218, rfl⟩
abbrev main_call0_call0_v145 : Ref sig .tc := ⟨.hbm, 219, rfl⟩
abbrev main_call0_call0_v146 : Ref sig .tc := ⟨.hbm, 220, rfl⟩
abbrev main_call0_call0_v147 : Ref sig .tc := ⟨.hbm, 221, rfl⟩
abbrev main_call0_call0_v148 : Ref sig .tc := ⟨.hbm, 222, rfl⟩
abbrev main_call0_call0_v149 : Ref sig .tc := ⟨.hbm, 223, rfl⟩
abbrev main_call0_call0_c_38 : Ref sig .tc := ⟨.hbm, 224, rfl⟩
abbrev main_call0_call0_v150 : Ref sig .tc := ⟨.hbm, 225, rfl⟩
abbrev main_call0_call0_v151 : Ref sig .tc := ⟨.hbm, 226, rfl⟩
abbrev main_call0_call0_c_39 : Ref sig .tc := ⟨.hbm, 227, rfl⟩
abbrev main_call0_call0_v152 : Ref sig .tc := ⟨.hbm, 228, rfl⟩
abbrev main_call0_call0_v153 : Ref sig .tc := ⟨.hbm, 229, rfl⟩
abbrev main_call0_call0_v154 : Ref sig .tc := ⟨.hbm, 230, rfl⟩
abbrev main_call0_call0_v155 : Ref sig .tc := ⟨.hbm, 231, rfl⟩
abbrev main_call0_call0_v156 : Ref sig .tc := ⟨.hbm, 232, rfl⟩
abbrev main_call0_call0_c_40 : Ref sig .tc := ⟨.hbm, 233, rfl⟩
abbrev main_call0_call0_v157 : Ref sig .tc := ⟨.hbm, 234, rfl⟩
abbrev main_call0_call0_v158 : Ref sig .tc := ⟨.hbm, 235, rfl⟩
abbrev main_call0_call0_c_41 : Ref sig .tc := ⟨.hbm, 236, rfl⟩
abbrev main_call0_call0_v159 : Ref sig .tc := ⟨.hbm, 237, rfl⟩
abbrev main_call0_call0_v160 : Ref sig .tc := ⟨.hbm, 238, rfl⟩
abbrev main_call0_call0_v161 : Ref sig .tc := ⟨.hbm, 239, rfl⟩
abbrev main_call0_call0_v162 : Ref sig .tc := ⟨.hbm, 240, rfl⟩
abbrev main_call0_call0_v163 : Ref sig .tc := ⟨.hbm, 241, rfl⟩
abbrev main_call0_call0_c_42 : Ref sig .tc := ⟨.hbm, 242, rfl⟩
abbrev main_call0_call0_v164 : Ref sig .tc := ⟨.hbm, 243, rfl⟩
abbrev main_call0_call0_v165 : Ref sig .tc := ⟨.hbm, 244, rfl⟩
abbrev main_call0_call0_c_43 : Ref sig .tc := ⟨.hbm, 245, rfl⟩
abbrev main_call0_call0_v166 : Ref sig .tc := ⟨.hbm, 246, rfl⟩
abbrev main_call0_call0_v167 : Ref sig .tc := ⟨.hbm, 247, rfl⟩
abbrev main_call0_call0_v168 : Ref sig .tc := ⟨.hbm, 248, rfl⟩
abbrev main_call0_call0_v169 : Ref sig .tc := ⟨.hbm, 249, rfl⟩
abbrev main_call0_call0_v170 : Ref sig .tc := ⟨.hbm, 250, rfl⟩
abbrev main_call0_v19_0 : Ref sig .tc := ⟨.hbm, 251, rfl⟩
abbrev main_call0_call0_v172 : Ref sig .tc := ⟨.hbm, 252, rfl⟩
abbrev main_call0_call0_v173 : Ref sig .tc := ⟨.hbm, 253, rfl⟩
abbrev main_call0_call0_c_44 : Ref sig .tc := ⟨.hbm, 254, rfl⟩
abbrev main_call0_call0_v174 : Ref sig .tc := ⟨.hbm, 255, rfl⟩
abbrev main_call0_v19_1 : Ref sig .tc := ⟨.hbm, 256, rfl⟩
abbrev main_call0_v20 : Ref sig .tc := ⟨.hbm, 257, rfl⟩
abbrev main_call0_c_2 : Ref sig .tc := ⟨.hbm, 258, rfl⟩
abbrev main_call0_v21 : Ref sig .tc := ⟨.hbm, 259, rfl⟩
abbrev main_call0_v22 : Ref sig .tc := ⟨.hbm, 260, rfl⟩
abbrev main_call0_c_3 : Ref sig .tc := ⟨.hbm, 261, rfl⟩
abbrev main_call0_v23 : Ref sig .tc := ⟨.hbm, 262, rfl⟩
abbrev main_call0_v24 : Ref sig .tc := ⟨.hbm, 263, rfl⟩
abbrev main_call0_v25 : Ref sig .tc := ⟨.hbm, 264, rfl⟩
abbrev main_call0_cst : Ref sig .tc := ⟨.hbm, 265, rfl⟩
abbrev main_call0_v26 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_call0_v30 : Ref sig .tc := ⟨.hbm, 270, rfl⟩
abbrev main_call0_v31 : Ref sig .tc := ⟨.hbm, 271, rfl⟩
abbrev main_call0_v32 : Ref sig .tc := ⟨.hbm, 272, rfl⟩
abbrev main_call0_v33 : Ref sig .tc := ⟨.hbm, 273, rfl⟩
abbrev main_v7 : Ref sig .tc := ⟨.hbm, 274, rfl⟩
abbrev main_cst_3 : Ref sig .tc := ⟨.hbm, 275, rfl⟩
abbrev main_v8 : Ref sig .tc := ⟨.hbm, 276, rfl⟩
abbrev main_v9 : Ref sig .tc := ⟨.hbm, 277, rfl⟩
abbrev main_v10 : Ref sig .tc := ⟨.hbm, 278, rfl⟩
abbrev main_cst_4 : Ref sig .tc := ⟨.hbm, 279, rfl⟩
abbrev main_v11 : Ref sig .tc := ⟨.hbm, 280, rfl⟩
abbrev main_v12 : Ref sig .tc := ⟨.hbm, 281, rfl⟩
abbrev main_v13 : Ref sig .tc := ⟨.hbm, 282, rfl⟩
abbrev main_v14 : Ref sig .tc := ⟨.hbm, 283, rfl⟩
abbrev main_v15 : Ref sig .tc := ⟨.hbm, 284, rfl⟩
abbrev main_cst_5 : Ref sig .tc := ⟨.hbm, 285, rfl⟩
abbrev main_v16 : Ref sig .tc := ⟨.hbm, 286, rfl⟩
abbrev main_v17 : Ref sig .tc := ⟨.hbm, 287, rfl⟩
abbrev main_cst_6 : Ref sig .tc := ⟨.hbm, 288, rfl⟩
abbrev main_v18 : Ref sig .tc := ⟨.hbm, 289, rfl⟩
abbrev main_cst_7 : Ref sig .tc := ⟨.hbm, 290, rfl⟩
abbrev main_v19 : Ref sig .tc := ⟨.hbm, 291, rfl⟩
abbrev main_v20 : Ref sig .tc := ⟨.hbm, 292, rfl⟩
abbrev main_v21 : Ref sig .tc := ⟨.hbm, 293, rfl⟩
abbrev main_v22 : Ref sig .tc := ⟨.hbm, 294, rfl⟩
abbrev main_v23 : Ref sig .tc := ⟨.hbm, 295, rfl⟩
abbrev main_v24 : Ref sig .tc := ⟨.hbm, 296, rfl⟩
abbrev main_cst_8 : Ref sig .tc := ⟨.hbm, 297, rfl⟩
abbrev main_v25 : Ref sig .tc := ⟨.hbm, 298, rfl⟩
abbrev main_v26 : Ref sig .tc := ⟨.hbm, 299, rfl⟩
abbrev main_v27 : Ref sig .tc := ⟨.hbm, 300, rfl⟩
abbrev main_v28 : Ref sig .tc := ⟨.hbm, 301, rfl⟩
abbrev main_call1_v0 : Ref sig .tc := ⟨.hbm, 302, rfl⟩
abbrev main_call1_cst : Ref sig .tc := ⟨.hbm, 303, rfl⟩
abbrev main_call1_c : Ref sig .tc := ⟨.hbm, 304, rfl⟩
abbrev main_call1_v1_0 : Ref sig .tc := ⟨.hbm, 305, rfl⟩
abbrev main_v29 : Ref sig .tc := ⟨.hbm, 306, rfl⟩
abbrev main_cst_9 : Ref sig .tc := ⟨.hbm, 307, rfl⟩
abbrev main_v30 : Ref sig .tc := ⟨.hbm, 308, rfl⟩
abbrev main_v31 : Ref sig .tc := ⟨.hbm, 309, rfl⟩
abbrev main_c_10 : Ref sig .tc := ⟨.hbm, 310, rfl⟩
abbrev main_v32 : Ref sig .tc := ⟨.hbm, 311, rfl⟩
abbrev main_v33 : Ref sig .tc := ⟨.hbm, 312, rfl⟩
abbrev main_c_11 : Ref sig .tc := ⟨.hbm, 313, rfl⟩
abbrev main_v34 : Ref sig .tc := ⟨.hbm, 314, rfl⟩
abbrev main_v35 : Ref sig .tc := ⟨.hbm, 315, rfl⟩
abbrev main_v36 : Ref sig .tc := ⟨.hbm, 316, rfl⟩
abbrev main_c_12 : Ref sig .tc := ⟨.hbm, 317, rfl⟩
abbrev main_v37 : Ref sig .tc := ⟨.hbm, 318, rfl⟩
abbrev main_v38 : Ref sig .tc := ⟨.hbm, 319, rfl⟩
abbrev main_c_13 : Ref sig .tc := ⟨.hbm, 320, rfl⟩
abbrev main_v39 : Ref sig .tc := ⟨.hbm, 321, rfl⟩
abbrev main_v40 : Ref sig .tc := ⟨.hbm, 322, rfl⟩
abbrev main_v41 : Ref sig .tc := ⟨.hbm, 323, rfl⟩
abbrev main_v42 : Ref sig .tc := ⟨.hbm, 324, rfl⟩
abbrev main_v43 : Ref sig .tc := ⟨.hbm, 325, rfl⟩
abbrev main_v44 : Ref sig .tc := ⟨.hbm, 326, rfl⟩
abbrev main_cst_14 : Ref sig .tc := ⟨.hbm, 327, rfl⟩
abbrev main_v45 : Ref sig .tc := ⟨.hbm, 328, rfl⟩
abbrev main_v46 : Ref sig .tc := ⟨.hbm, 329, rfl⟩
abbrev main_v47 : Ref sig .tc := ⟨.hbm, 330, rfl⟩
abbrev main_v48 : Ref sig .tc := ⟨.hbm, 331, rfl⟩

abbrev nD : Nat := 1
abbrev τ : Topo := Topo.v7x

variable {F : FTy → Type} [FloatOps F]
-- ==== Proof.KernelBody.lean ====
/-
  What one grid point of the kernel computes, for any float values: the tile the body stores as a function of the tile
  it loads, and the run of the body over its two staging buffers.
-/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.KitQuiescent
public import Idealize.ShloMosaic.Lib.VecWindow
public import Idealize.ShloMosaic.Lib.Tactic

@[expose] public section

set_option maxRecDepth 16384

noncomputable section

namespace Cert.KernelIdeal.Own

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The third word of the random key. -/
abbrev key2 : BitVec 32 := Scalar.xori (Scalar.xori 466688986#32 0#32) 1#32

/-- Chunk `k`'s first word after the first four rounds. -/
abbrev lA (i : grid0.Coords) (k : Fin k0_t1_loop.trips) : IVec S16x512 32 := k0_pay8 (k0_pay38 i) 0#32 1#32 k
/-- Its second word after the first four rounds. -/
abbrev lB (i : grid0.Coords) (k : Fin k0_t1_loop.trips) : IVec S16x512 32 := k0_pay9 (k0_pay38 i) 0#32 1#32 k
/-- The two words in the middle of the third group of rounds. -/
abbrev lC (i : grid0.Coords) (k : Fin k0_t1_loop.trips) : IVec S16x512 32 :=
  k0_pay22 key2 (Scalar.addi key2 1#32) (Scalar.addi 0#32 2#32) (lA i k) (lB i k) k0_pay10
abbrev lD (i : grid0.Coords) (k : Fin k0_t1_loop.trips) : IVec S16x512 32 :=
  k0_pay23 key2 (Scalar.addi key2 1#32) (Scalar.addi 0#32 2#32) (lA i k) (lB i k) k0_pay10
/-- The two words near the end of the fourth group of rounds. -/
abbrev lE (i : grid0.Coords) (k : Fin k0_t1_loop.trips) : IVec S16x512 32 := k0_pay35 (Scalar.addi 1#32 3#32) (lC i k) (lD i k)
abbrev lF (i : grid0.Coords) (k : Fin k0_t1_loop.trips) : IVec S16x512 32 := k0_pay36 (Scalar.addi 1#32 3#32) (lC i k) (lD i k)
/-- The noise chunk `k` adds. -/
abbrev lnoise (i : grid0.Coords) (k : Fin k0_t1_loop.trips) : FVec F S16x512 .f32 :=
  k0_pay37 key2 (Scalar.addi key2 4#32) (Scalar.addi 0#32 5#32) (lE i k) (lF i k)

/-- The logits of chunk `k` of a staged tile. -/
abbrev chunk (X : S16x100352.Idx → Elt F .f32) (k : Fin k0_t1_loop.trips) : Vec F S16x512 .f32 :=
  View.ld (Val := Elt F) X (Rect.unit (s := S16x100352) (k0_off1 k) S16x512.size (k0_off1_inb k))

/-- One trip of the search loop: the running maxima and the chunks they were found in. -/
def trip (i : grid0.Coords) (X : S16x100352.Idx → Elt F .f32) (k : Fin k0_t1_loop.trips) (a : FVec F S16x512 .f32 × IVec S16x512 32) :
    FVec F S16x512 .f32 × IVec S16x512 32 :=
  (k0_pay42 a.1 (lnoise i k) (chunk X k), k0_pay43 a.1 a.2 (Scf.iv 0#32 1#32 k) (lnoise i k) (chunk X k))

/-- The running maxima and their chunks before trip `k`. -/
def carry (i : grid0.Coords) (X : S16x100352.Idx → Elt F .f32) : ℕ → FVec F S16x512 .f32 × IVec S16x512 32
  | 0 => (k0_pay39, k0_pay40)
  | k + 1 => if h : k < k0_t1_loop.trips then trip i X ⟨k, h⟩ (carry i X k) else carry i X k

/-- The two words of the tail chunk after the first four rounds and on. -/
abbrev tA (i : grid0.Coords) : IVec S16x512 32 := k0_pay58 (k0_pay45 i) (k0_pay46 i) (Scalar.addi key2 1#32)
abbrev tB (i : grid0.Coords) : IVec S16x512 32 := k0_pay59 (k0_pay45 i) (k0_pay46 i) (Scalar.addi key2 1#32)
abbrev tC (i : grid0.Coords) : IVec S16x512 32 := k0_pay69 key2 (Scalar.addi 0#32 2#32) (Scalar.addi 1#32 3#32) (tA i) (tB i)
abbrev tD (i : grid0.Coords) : IVec S16x512 32 := k0_pay70 key2 (Scalar.addi 0#32 2#32) (Scalar.addi 1#32 3#32) (tA i) (tB i)
abbrev tE (i : grid0.Coords) : IVec S16x512 32 := k0_pay71 key2 (Scalar.addi 0#32 2#32) (Scalar.addi 1#32 3#32) (tA i) (tB i)
abbrev tG (i : grid0.Coords) : IVec S16x512 32 := k0_pay83 (Scalar.addi key2 4#32) (tC i) (tD i) (tE i)
abbrev tH (i : grid0.Coords) : IVec S16x512 32 := k0_pay84 (Scalar.addi key2 4#32) (tC i) (tD i) (tE i)

/-- The lane numbers. -/
abbrev lanes : IVec S16x512 32 := iota .tc S16x512 32 [1] iota_S16x512_d1_w32

/-- The column found for each row of the tile. -/
def best (i : grid0.Coords) (X : S16x100352.Idx → Elt F .f32) : IVec S16x1 32 :=
  k0_pay85 lanes (carry i X k0_t1_loop.trips).1 (carry i X k0_t1_loop.trips).2 k0_pay44 key2 (Scalar.addi 0#32 5#32) (tG i) (tH i)
    (View.ld (Val := Elt F) X (Rect.unit (s := S16x100352) ![0, 99840] S16x512.size inb_S16x100352_S16x512_0_99840))

/-- The chunk of a column. -/
def chunkOf (y : S16x100352.Idx) : Fin k0_t2_loop.trips := ⟨(y 1).val / 512, by
  have h : (y 1).val < 100352 := (y 1).isLt
  have : k0_t2_loop.trips = 196 := by decide +kernel
  omega⟩
/-- Its place in the chunk. -/
def laneOf (y : S16x100352.Idx) : S16x512.Idx := fun a => match a with
  | ⟨0, _⟩ => ⟨(y 0).val, (y 0).isLt⟩
  | ⟨1, _⟩ => ⟨(y 1).val % 512, Nat.mod_lt _ (by decide)⟩

/-- The tile the body stores. -/
def outTile (i : grid0.Coords) (X : S16x100352.Idx → Elt F .f32) : S16x100352.Idx → Elt F .f32 :=
  fun y => k0_pay1 (F := F) lanes (best i X) (chunkOf y) (laneOf y)

/-- The trip the run of the loop finds is `trip`. -/
theorem tripR_eq (𝒱 : Variants) (c : Dev nD) (bd : Option 𝒱.V) (i : grid0.Coords) (arg1 : Memref sig .tc .vmem S16x100352 .f32)
    (harg1 : arg1.IsWhole) (arg2 : Memref sig .tc .vmem S16x100352 .f32) (harg2 : arg2.IsWhole) (f : BufTy.Contents (Elt F) arg1.view.ty)
    (k : Fin k0_t1_loop.trips) (a : FVec F S16x512 .f32 × IVec S16x512 32) :
    tripR_k0_t1 (F := F) 𝒱 c bd i arg1 harg1 arg2 harg2 f k a = trip i (arg1.view.read (Elt F) f) k a := by
  unfold tripR_k0_t1 trip_k0_t1
  rfl

/-- The carried values the run of the loop finds are `carry`. -/
theorem st_eq (𝒱 : Variants) (c : Dev nD) (bd : Option 𝒱.V) (i : grid0.Coords) (arg1 : Memref sig .tc .vmem S16x100352 .f32)
    (harg1 : arg1.IsWhole) (arg2 : Memref sig .tc .vmem S16x100352 .f32) (harg2 : arg2.IsWhole) (f : BufTy.Contents (Elt F) arg1.view.ty)
    (n : ℕ) (hn : n ≤ k0_t1_loop.trips) :
    st_k0_t1 (F := F) 𝒱 c bd i arg1 harg1 arg2 harg2 f (k0_pay39 (F := F), k0_pay40) n = carry i (arg1.view.read (Elt F) f) n := by
  induction n with
  | zero => rfl
  | succ n ih =>
    have e := st_k0_t1_succ (F := F) 𝒱 c bd i arg1 harg1 arg2 harg2 f (k0_pay39 (F := F), k0_pay40) ⟨n, hn⟩
    rw [e, tripR_eq, ih (Nat.le_of_succ_le hn), carry, dif_pos (show n < k0_t1_loop.trips from hn)]

/-- A trip of the store loop writes one chunk. -/
theorem tripL_eq (𝒱 : Variants) (c : Dev nD) (bd : Option 𝒱.V) (i : grid0.Coords) (arg1 : Memref sig .tc .vmem S16x100352 .f32)
    (harg1 : arg1.IsWhole) (arg2 : Memref sig .tc .vmem S16x100352 .f32) (harg2 : arg2.IsWhole) (v0 : IVec S16x512 32) (v219 : IVec S16x1 32)
    (k : Fin k0_t2_loop.trips) :
    tripL_k0_t2 (F := F) 𝒱 c bd i arg1 harg1 arg2 harg2 v0 v219 k
      = [⟨Rect.unit (s := S16x100352) (k0_off2 k) S16x512.size (k0_off2_inb k), k0_pay1 (F := F) v0 v219 k⟩] := by
  unfold tripL_k0_t2 trip_k0_t2
  rfl

/-- The pieces of the trips before `n` of the store loop agree with the stored tile, and cover its first `512 n` columns. -/
theorem pieces (𝒱 : Variants) (c : Dev nD) (bd : Option 𝒱.V) (i : grid0.Coords) (arg1 : Memref sig .tc .vmem S16x100352 .f32)
    (harg1 : arg1.IsWhole) (arg2 : Memref sig .tc .vmem S16x100352 .f32) (harg2 : arg2.IsWhole) (v0 : IVec S16x512 32) (v219 : IVec S16x1 32)
    (n : ℕ) (hn : n ≤ k0_t2_loop.trips) :
    (∀ p ∈ pb_k0_t2 (F := F) 𝒱 c bd i arg1 harg1 arg2 harg2 v0 v219 n, ∀ x : p.1.shape.Idx,
        p.2 x = (fun y : S16x100352.Idx => k0_pay1 (F := F) v0 v219 (chunkOf y) (laneOf y)) (p.1.emb x)) ∧
      ∀ y : S16x100352.Idx, (y 1).val < 512 * n → ∃ p ∈ pb_k0_t2 (F := F) 𝒱 c bd i arg1 harg1 arg2 harg2 v0 v219 n, y ∈ p.1.set := by
  induction n with
  | zero => exact ⟨fun p hp => absurd hp List.not_mem_nil, fun y hy => absurd hy (by omega)⟩
  | succ n ih =>
    obtain ⟨h1, h2⟩ := ih (Nat.le_of_succ_le hn)
    have e := pb_k0_t2_succ (F := F) 𝒱 c bd i arg1 harg1 arg2 harg2 v0 v219 ⟨n, hn⟩
    rw [tripL_eq] at e
    rw [e]
    have eo : k0_off2 ⟨n, hn⟩ = ![0, 512 * n] := k0_off2_eq ⟨n, hn⟩
    have eo0 : k0_off2 ⟨n, hn⟩ 0 = 0 := by rw [eo]; rfl
    have eo1 : k0_off2 ⟨n, hn⟩ 1 = 512 * n := by rw [eo]; rfl
    refine ⟨fun p hp => ?_, fun y hy => ?_⟩
    · rcases List.mem_cons.mp hp with rfl | hp
      · intro x
        have hx1 : (x 1).val < 512 := (x 1).isLt
        have v1 : ((Rect.unit (s := S16x100352) (k0_off2 ⟨n, hn⟩) S16x512.size (k0_off2_inb ⟨n, hn⟩)).emb x 1).val = 512 * n + (x 1).val := by
          change k0_off2 ⟨n, hn⟩ 1 + 1 * (x 1).val = _
          rw [eo1]; omega
        have v0' : ((Rect.unit (s := S16x100352) (k0_off2 ⟨n, hn⟩) S16x512.size (k0_off2_inb ⟨n, hn⟩)).emb x 0).val = (x 0).val := by
          change k0_off2 ⟨n, hn⟩ 0 + 1 * (x 0).val = _
          rw [eo0]; omega
        change k0_pay1 (F := F) v0 v219 ⟨n, hn⟩ x = k0_pay1 (F := F) v0 v219 (chunkOf _) (laneOf _)
        congr 1
        · congr 1
          change n = _ / 512
          rw [v1]; omega
        · funext a
          match a with
          | ⟨0, _⟩ => exact Fin.ext v0'.symm
          | ⟨1, _⟩ =>
            refine Fin.ext ?_
            change (x 1).val = _ % 512
            rw [v1]; omega
      · exact h1 p hp
    · by_cases hy' : (y 1).val < 512 * n
      · obtain ⟨p, hp, hm⟩ := h2 y hy'
        exact ⟨p, List.mem_cons_of_mem _ hp, hm⟩
      · refine ⟨_, List.mem_cons_self, ?_⟩
        rw [Rect.mem_set_unit]
        intro a
        match a with
        | ⟨0, _⟩ =>
          have : (y 0).val < 16 := (y 0).isLt
          change k0_off2 ⟨n, hn⟩ 0 ≤ (y 0).val ∧ (y 0).val < k0_off2 ⟨n, hn⟩ 0 + 16
          rw [eo0]; omega
        | ⟨1, _⟩ =>
          change k0_off2 ⟨n, hn⟩ 1 ≤ (y 1).val ∧ (y 1).val < k0_off2 ⟨n, hn⟩ 1 + 512
          rw [eo1]; omega

/-- The body over two whole staging buffers: it leaves the first as it was and stores `outTile` of it in the second. -/
theorem body_run (𝒱 : Variants) (c : Dev nD) (bd : Option 𝒱.V) (E : Set ℕ) (i : grid0.Coords) (arg1 : Memref sig .tc .vmem S16x100352 .f32)
    (harg1 : arg1.IsWhole) (arg2 : Memref sig .tc .vmem S16x100352 .f32) (harg2 : arg2.IsWhole) (X Y : S16x100352.Idx → Elt F .f32)
    (K : PUnit → sProp 𝕄) :
    iprop((owns (c : Thread nD τ) arg1 fullShare X ∗ owns (c : Thread nD τ) arg2 fullShare Y)
          ∗ (iprop(owns (c : Thread nD τ) arg1 fullShare X ∗ owns (c : Thread nD τ) arg2 fullShare (outTile i X)) -∗ K ⟨⟩))
      ⊢ wp frame (wpE (defs₀ (F := F)) 𝒱 (c : Thread nD τ) bd) E (cc0__fused_kernel i arg1 harg1 arg2 harg2) K := by
  have key : ∀ f1 f2, arg1.view.read (Elt F) f1 = X →
      arg2.view.read (Elt F) (arg2.view.writes (Elt F) f2 (pb_k0_t2 (F := F) 𝒱 c bd i arg1 harg1 arg2 harg2 lanes
        (k0_pay85 lanes (st_k0_t1 (F := F) 𝒱 c bd i arg1 harg1 arg2 harg2 f1 (k0_pay39 (F := F), k0_pay40) k0_t1_loop.trips).1
          (st_k0_t1 (F := F) 𝒱 c bd i arg1 harg1 arg2 harg2 f1 (k0_pay39 (F := F), k0_pay40) k0_t1_loop.trips).2 k0_pay44 key2 (Scalar.addi 0#32 5#32) (tG i) (tH i)
          (arg1.view.readAt (Elt F) (Rect.unit (s := S16x100352) ![0, 99840] S16x512.size inb_S16x100352_S16x512_0_99840).toLoadRect f1))
        k0_t2_loop.trips)) = outTile i X := by
    intro f1 f2 h1
    funext y
    have ht : k0_t2_loop.trips = 196 := by decide +kernel
    have hp := pieces (F := F) 𝒱 c bd i arg1 harg1 arg2 harg2 lanes (best i X) k0_t2_loop.trips le_rfl
    rw [st_eq _ _ _ _ _ _ _ _ _ _ le_rfl, h1,
      show arg1.view.readAt (Elt F) (Rect.unit (s := S16x100352) ![0, 99840] S16x512.size inb_S16x100352_S16x512_0_99840).toLoadRect f1
        = View.ld (Val := Elt F) X (Rect.unit (s := S16x100352) ![0, 99840] S16x512.size inb_S16x100352_S16x512_0_99840) from by
          rw [← h1]; rfl]
    exact View.read_writes_apply_of_pieces _ _ _ _ hp.1 y (hp.2 y (by
      have h : (y 1).val < 100352 := (y 1).isLt
      rw [ht]; omega))
  rw [cc0__fused_kernel_eq_skeleton]
  unfold cc0__fused_kernel_skel owns
  iintro ⟨⟨⟨%f1, %h1, H1⟩, ⟨%f2, %h2, H2⟩⟩, Hk⟩
  sl_exec
  sl_step
  iapply Hk
  isplitl [H1]
  · iexists f1; isplitr; · ipureintro; exact h1
    iexact H1
  · iexists _; isplitr; · ipureintro; exact key f1 f2 h1
    iexact H2

end Cert.KernelIdeal.Own

end
-- ==== Proof.Words.lean ====
/-
  The random words in plain form: the twenty rounds on a pair of 32-bit words, with the key (0, 1), and the 23-bit
  fraction they are cut down to.
-/
module

public import Idealize.ShloMosaic.PureOps

@[expose] public section

namespace Cert.Proof.Words

/-- A 32-bit word. -/
abbrev W := BitVec 32

/-- One round: the sum of the two words, and the second rotated left by `c` (right by `n = 32 - c`) xor that sum. -/
def rnd (c n : W) (s : W × W) : W × W := (s.1 + s.2, ((s.2 <<< c) ||| (s.2 >>> n)) ^^^ (s.1 + s.2))

/-- The first, third and fifth group of four rounds. -/
def odd (s : W × W) : W × W := rnd 6#32 26#32 (rnd 26#32 6#32 (rnd 15#32 17#32 (rnd 13#32 19#32 s)))

/-- The second and fourth group of four rounds. -/
def even (s : W × W) : W × W := rnd 24#32 8#32 (rnd 16#32 16#32 (rnd 29#32 3#32 (rnd 17#32 15#32 s)))

/-- The key words added after a group. -/
def key (a b : W) (s : W × W) : W × W := (s.1 + a, s.2 + b)

/-- The third key word: the other two and a constant, xored. -/
def k2 : W := 466688987#32

/-- The five groups and the key words after each. -/
def five (s : W × W) : W × W :=
  key k2 5#32 (odd (key 1#32 (k2 + 4#32) (even (key 0#32 4#32 (odd (key k2 2#32 (even (key 1#32 (k2 + 1#32) (odd s)))))))))

/-- The random word of place `n` of the array, counted along the rows. -/
def word (n : ℕ) : W := (five (0#32, BitVec.ofNat 32 n + 1#32)).1 ^^^ (five (0#32, BitVec.ofNat 32 n + 1#32)).2

/-- The word of a float in [1, 2) with the random word's top 23 bits as its fraction. -/
def unit (n : ℕ) : W := (word n >>> 9#32) ||| 0x3F800000#32

end Cert.Proof.Words
-- ==== Proof.KernelWords.lean ====
/-
  The random words of the kernel: the words chunk `k` computes at a lane are the plain twenty rounds at that lane's
  place in the array, taken one round at a time.
-/
module

public import proofs.«01_k».proof.Proof.KernelBody
public import proofs.«01_k».proof.Proof.Words

@[expose] public section

noncomputable section

namespace Cert.KernelIdeal.Own

open Cert.KernelIdeal Cert.KernelIdeal.Gen Cert.Proof.Words
open Idealize.ShloMosaic

variable {F : FTy → Type} [FloatOps F]

theorem swap3 (a b c : BitVec 32) : a + b + c = a + c + b := by
  rw [BitVec.add_assoc, BitVec.add_comm b, BitVec.add_assoc]

/-- The place in the array of a lane of chunk `k` of tile `i`, counted along the rows. -/
def place (i : grid0.Coords) (k : ℕ) (j : S16x512.Idx) : ℕ := ((i 0).val * 16 + (j 0).val) * 100000 + (k * 512 + (j 1).val)

/-- A round whose first word is zero. -/
theorem rnd_zero (c n y : W) : rnd c n (0#32, y) = (y, ((y <<< c) ||| (y >>> n)) ^^^ y) := by
  simp [rnd]

/-- The count the first tile lane starts from. -/
theorem base (i : grid0.Coords) (j : S16x512.Idx) : k0_pay38 i j = BitVec.ofNat 32 (place i 0 j) + 1#32 := by
  have h : k0_pay38 i j = (BitVec.ofNat 32 (0 * 16 + (j 0).val) + BitVec.ofNat 32 (i 0).val * 16#32) * 100000#32
      + BitVec.ofNat 32 (0 * 512 + (j 1).val) + 1#32 := rfl
  rw [h, place]
  apply BitVec.eq_of_toNat_eq
  simp only [BitVec.toNat_add, BitVec.toNat_mul, BitVec.toNat_ofNat]
  omega

theorem count (i : grid0.Coords) (k : Fin k0_t1_loop.trips) (j : S16x512.Idx) :
    k0_pay2 (k0_pay38 i) 0#32 1#32 k j = BitVec.ofNat 32 (place i k.val j) + 1#32 := by
  have h (v : IVec S16x512 32) : k0_pay2 v 0#32 1#32 k j = v j + (0#32 + BitVec.ofNat 32 k.val * 1#32) * 512#32 := rfl
  have e : place i k.val j = place i 0 j + k.val * 512 := by unfold place; omega
  rw [h, base, e, BitVec.ofNat_add, BitVec.ofNat_mul, BitVec.zero_add, BitVec.mul_one]
  exact swap3 _ _ _

theorem countT (i : grid0.Coords) (j : S16x512.Idx) : k0_pay45 i j = BitVec.ofNat 32 (place i 195 j) + 1#32 := by
  have h : k0_pay45 i j = addi (k0_pay38 i) (broadcast S16x512 99840#32) j := rfl
  have e : place i 195 j = place i 0 j + 99840 := by unfold place; omega
  rw [e, BitVec.ofNat_add, h]
  unfold addi broadcast IntOp.addi
  rw [base]
  exact swap3 _ _ _

section
variable (a : IVec S16x512 32) (k : Fin k0_t1_loop.trips) (j : S16x512.Idx)

theorem group1 : (k0_pay8 a 0#32 1#32 k j, k0_pay9 a 0#32 1#32 k j) = odd (0#32, k0_pay2 a 0#32 1#32 k j) := by
  have e1 : (k0_pay2 a 0#32 1#32 k j, k0_pay3 a 0#32 1#32 k j) = rnd 13#32 19#32 (0#32, k0_pay2 a 0#32 1#32 k j) := by
    rw [rnd_zero]; rfl
  have e2 : (k0_pay4 a 0#32 1#32 k j, k0_pay5 a 0#32 1#32 k j) = rnd 15#32 17#32 (k0_pay2 a 0#32 1#32 k j, k0_pay3 a 0#32 1#32 k j) := rfl
  have e3 : (k0_pay6 a 0#32 1#32 k j, k0_pay7 a 0#32 1#32 k j) = rnd 26#32 6#32 (k0_pay4 a 0#32 1#32 k j, k0_pay5 a 0#32 1#32 k j) := rfl
  have e4 : (k0_pay8 a 0#32 1#32 k j, k0_pay9 a 0#32 1#32 k j) = rnd 6#32 26#32 (k0_pay6 a 0#32 1#32 k j, k0_pay7 a 0#32 1#32 k j) := rfl
  rw [odd, ← e1, ← e2, ← e3, ← e4]
end

section
variable (v225 v232 v233 : BitVec 32) (A B : IVec S16x512 32) (j : S16x512.Idx)

theorem group2 : (k0_pay20 v225 v232 v233 A B k0_pay10 j, k0_pay19 v232 v233 A B k0_pay10 j)
    = ((key v225 v233 (even (key 1#32 v232 (A j, B j)))).1 + (key v225 v233 (even (key 1#32 v232 (A j, B j)))).2,
       (key v225 v233 (even (key 1#32 v232 (A j, B j)))).2) := by
  have e0 : (k0_pay12 v232 A B k0_pay10 j, k0_pay13 v232 A B k0_pay10 j) = rnd 17#32 15#32 (key 1#32 v232 (A j, B j)) := rfl
  have e1 : (k0_pay14 v232 A B k0_pay10 j, k0_pay15 v232 A B k0_pay10 j)
    = rnd 29#32 3#32 (k0_pay12 v232 A B k0_pay10 j, k0_pay13 v232 A B k0_pay10 j) := rfl
  have e2 : (k0_pay16 v232 A B k0_pay10 j, k0_pay17 v232 A B k0_pay10 j)
    = rnd 16#32 16#32 (k0_pay14 v232 A B k0_pay10 j, k0_pay15 v232 A B k0_pay10 j) := rfl
  have e3 : (k0_pay20 v225 v232 v233 A B k0_pay10 j, k0_pay19 v232 v233 A B k0_pay10 j)
    = ((key v225 v233 (rnd 24#32 8#32 (k0_pay16 v232 A B k0_pay10 j, k0_pay17 v232 A B k0_pay10 j))).1
        + (key v225 v233 (rnd 24#32 8#32 (k0_pay16 v232 A B k0_pay10 j, k0_pay17 v232 A B k0_pay10 j))).2,
       (key v225 v233 (rnd 24#32 8#32 (k0_pay16 v232 A B k0_pay10 j, k0_pay17 v232 A B k0_pay10 j))).2) := rfl
  rw [even, ← e0, ← e1, ← e2, e3]

theorem group3a : (k0_pay22 v225 v232 v233 A B k0_pay10 j, k0_pay23 v225 v232 v233 A B k0_pay10 j ^^^ k0_pay22 v225 v232 v233 A B k0_pay10 j)
    = rnd 15#32 17#32 (rnd 13#32 19#32 (key v225 v233 (even (key 1#32 v232 (A j, B j))))) := by
  have e := group2 v225 v232 v233 A B j
  generalize key v225 v233 (even (key 1#32 v232 (A j, B j))) = s at e ⊢
  have e1 : (k0_pay20 v225 v232 v233 A B k0_pay10 j, k0_pay21 v225 v232 v233 A B k0_pay10 j) = rnd 13#32 19#32 s := by
    have h : k0_pay21 v225 v232 v233 A B k0_pay10 j
      = ((k0_pay19 v232 v233 A B k0_pay10 j <<< 13#32) ||| (k0_pay19 v232 v233 A B k0_pay10 j >>> 19#32)) ^^^ k0_pay20 v225 v232 v233 A B k0_pay10 j := rfl
    obtain ⟨ea, eb⟩ := Prod.mk.inj e
    rw [h, rnd, ea, eb]
  rw [← e1]; rfl
end

section
variable (v234 : BitVec 32) (C D : IVec S16x512 32) (j : S16x512.Idx)

theorem group34 : (k0_pay35 v234 C D j, k0_pay36 v234 C D j)
    = even (key 0#32 v234 (rnd 6#32 26#32 (rnd 26#32 6#32 (C j, D j ^^^ C j)))) := by
  have e1 : (k0_pay25 C D j, k0_pay26 C D j) = rnd 26#32 6#32 (C j, D j ^^^ C j) := rfl
  have e2 : (k0_pay29 v234 C D j, k0_pay30 v234 C D j)
    = rnd 17#32 15#32 (key 0#32 v234 (rnd 6#32 26#32 (k0_pay25 C D j, k0_pay26 C D j))) := rfl
  have e3 : (k0_pay31 v234 C D j, k0_pay32 v234 C D j) = rnd 29#32 3#32 (k0_pay29 v234 C D j, k0_pay30 v234 C D j) := rfl
  have e4 : (k0_pay33 v234 C D j, k0_pay34 v234 C D j) = rnd 16#32 16#32 (k0_pay31 v234 C D j, k0_pay32 v234 C D j) := rfl
  have e5 : (k0_pay35 v234 C D j, k0_pay36 v234 C D j) = rnd 24#32 8#32 (k0_pay33 v234 C D j, k0_pay34 v234 C D j) := rfl
  rw [even, ← e1, ← e2, ← e3, ← e4, ← e5]
end

section
variable (a b : IVec S16x512 32) (v29 : BitVec 32) (j : S16x512.Idx)

theorem tail1 (s : W × W) (h : (a j, b j) = rnd 13#32 19#32 s) :
    (k0_pay59 a b v29 j, k0_pay58 a b v29 j)
      = ((rnd 16#32 16#32 (rnd 29#32 3#32 (rnd 17#32 15#32 (key 1#32 v29 (odd s))))).1
          + (rnd 16#32 16#32 (rnd 29#32 3#32 (rnd 17#32 15#32 (key 1#32 v29 (odd s))))).2,
        (rnd 16#32 16#32 (rnd 29#32 3#32 (rnd 17#32 15#32 (key 1#32 v29 (odd s))))).2) := by
  have e1 : (k0_pay47 a b j, k0_pay48 a b j) = rnd 15#32 17#32 (a j, b j) := rfl
  have e2 : (k0_pay49 a b j, k0_pay50 a b j) = rnd 26#32 6#32 (k0_pay47 a b j, k0_pay48 a b j) := rfl
  have e3 : (k0_pay53 a b v29 j, k0_pay54 a b v29 j)
    = rnd 17#32 15#32 (key 1#32 v29 (rnd 6#32 26#32 (k0_pay49 a b j, k0_pay50 a b j))) := rfl
  have e4 : (k0_pay55 a b v29 j, k0_pay56 a b v29 j) = rnd 29#32 3#32 (k0_pay53 a b v29 j, k0_pay54 a b v29 j) := rfl
  have e5 : (k0_pay57 a b v29 j, k0_pay58 a b v29 j) = rnd 16#32 16#32 (k0_pay55 a b v29 j, k0_pay56 a b v29 j) := rfl
  rw [odd, ← h, ← e1, ← e2, ← e3, ← e4, ← e5]
  rfl
end

section
variable (v22 v30 v31 : BitVec 32) (a b : IVec S16x512 32) (j : S16x512.Idx)

theorem tail2 (s : W × W) (h : (b j, a j) = (s.1 + s.2, s.2)) :
    (k0_pay69 v22 v30 v31 a b j, ((k0_pay70 v22 v30 v31 a b j ||| k0_pay71 v22 v30 v31 a b j) ^^^ k0_pay69 v22 v30 v31 a b j))
      = rnd 17#32 15#32 (key 0#32 v31 (odd (key v22 v30 (rnd 24#32 8#32 s)))) := by
  obtain ⟨h1, h2⟩ := Prod.mk.inj h
  have e1 : (k0_pay61 v22 v30 a b j, k0_pay62 v22 v30 a b j) = rnd 13#32 19#32 (key v22 v30 (rnd 24#32 8#32 s)) := by
    have h60 : k0_pay60 v30 a b j = (key v22 v30 (rnd 24#32 8#32 s)).2 := by
      have e : k0_pay60 v30 a b j = (((a j <<< 24#32) ||| (a j >>> 8#32)) ^^^ b j) + v30 := rfl
      rw [e, h1, h2]; rfl
    have h61 : k0_pay61 v22 v30 a b j = (key v22 v30 (rnd 24#32 8#32 s)).1 + (key v22 v30 (rnd 24#32 8#32 s)).2 := by
      have e : k0_pay61 v22 v30 a b j = b j + v22 + k0_pay60 v30 a b j := rfl
      rw [e, h60, h1]; rfl
    have h62 : k0_pay62 v22 v30 a b j
      = ((k0_pay60 v30 a b j <<< 13#32) ||| (k0_pay60 v30 a b j >>> 19#32)) ^^^ k0_pay61 v22 v30 a b j := rfl
    rw [h62, h61, h60]; rfl
  have e2 : (k0_pay63 v22 v30 a b j, k0_pay64 v22 v30 a b j) = rnd 15#32 17#32 (k0_pay61 v22 v30 a b j, k0_pay62 v22 v30 a b j) := rfl
  have e3 : (k0_pay65 v22 v30 a b j, k0_pay66 v22 v30 a b j) = rnd 26#32 6#32 (k0_pay63 v22 v30 a b j, k0_pay64 v22 v30 a b j) := rfl
  rw [odd, ← e1, ← e2, ← e3]
  rfl
end

section
variable (v32 : BitVec 32) (a b c : IVec S16x512 32) (j : S16x512.Idx)

theorem tail3 : (k0_pay83 v32 a b c j, k0_pay84 v32 a b c j ^^^ k0_pay83 v32 a b c j)
    = rnd 26#32 6#32 (rnd 15#32 17#32 (rnd 13#32 19#32 (key 1#32 v32 (rnd 24#32 8#32 (rnd 16#32 16#32 (rnd 29#32 3#32
        (a j, (b j ||| c j) ^^^ a j))))))) := by
  have e1 : (k0_pay73 a b c j, k0_pay74 a b c j) = rnd 29#32 3#32 (a j, (b j ||| c j) ^^^ a j) := rfl
  have e2 : (k0_pay75 a b c j, k0_pay76 a b c j) = rnd 16#32 16#32 (k0_pay73 a b c j, k0_pay74 a b c j) := rfl
  have e3 : (k0_pay79 v32 a b c j, k0_pay80 v32 a b c j)
    = rnd 13#32 19#32 (key 1#32 v32 (rnd 24#32 8#32 (k0_pay75 a b c j, k0_pay76 a b c j))) := rfl
  have e4 : (k0_pay81 v32 a b c j, k0_pay82 v32 a b c j) = rnd 15#32 17#32 (k0_pay79 v32 a b c j, k0_pay80 v32 a b c j) := rfl
  rw [← e1, ← e2, ← e3, ← e4]
  rfl
end

/-- The words of a chunk at a lane, before the last group. -/
theorem words (i : grid0.Coords) (k : Fin k0_t1_loop.trips) (j : S16x512.Idx) :
    key k2 5#32 (odd (key 1#32 (k2 + 4#32) (lE i k j, lF i k j))) = five (0#32, BitVec.ofNat 32 (place i k.val j) + 1#32) := by
  rw [group34, group3a, ← odd, group1, count]
  rfl

/-- The words of the tail chunk at a lane, before the last round. -/
theorem wordsT (i : grid0.Coords) (j : S16x512.Idx) :
    key k2 5#32 (rnd 6#32 26#32 (tG i j, tH i j ^^^ tG i j)) = five (0#32, BitVec.ofNat 32 (place i 195 j) + 1#32) := by
  have h1 : (k0_pay45 i j, k0_pay46 i j) = rnd 13#32 19#32 (0#32, k0_pay45 i j) := by rw [rnd_zero]; rfl
  rw [tail3, tail2 _ _ _ _ _ _ _ (tail1 _ _ _ _ _ h1), countT]
  rfl

/-- The logarithm of a random pair of words' number in [0, 1), a little added. -/
def lw (s : W × W) : F .f32 :=
  FloatOps.log (FloatOps.addf (FloatOps.subf (FloatOps.ofBits .f32 (((s.1 ^^^ s.2) >>> 9#32) ||| 0x3F800000#32)) (Scalar.ofBits .f32 0x3F800000#32))
    (Scalar.ofBits .f32 0x2EDBE6FF#32))

/-- What is taken off the logit at place `n` of the array. -/
def gum (n : ℕ) : F .f32 :=
  FloatOps.log (FloatOps.subf (Scalar.ofBits .f32 0x2EDBE6FF#32)
    (FloatOps.log (FloatOps.addf (FloatOps.subf (FloatOps.ofBits .f32 (unit n)) (Scalar.ofBits .f32 0x3F800000#32)) (Scalar.ofBits .f32 0x2EDBE6FF#32))))

theorem pay37 (a b c : BitVec 32) (x y : IVec S16x512 32) (j : S16x512.Idx) :
    k0_pay37 (F := F) a b c x y j = lw (key a c (odd (key 1#32 b (x j, y j)))) := rfl

/-- The perturbed logit of chunk `k` at a lane. -/
theorem score (i : grid0.Coords) (k : Fin k0_t1_loop.trips) (v : Vec F S16x512 .f32) (j : S16x512.Idx) :
    k0_pay41 (F := F) (lnoise i k) v j = FloatOps.subf (v j) (gum (place i k.val j)) := by
  have h (x : FVec F S16x512 .f32) : k0_pay41 (F := F) x v j
    = FloatOps.subf (v j) (FloatOps.log (FloatOps.subf (Scalar.ofBits .f32 0x2EDBE6FF#32) (x j))) := rfl
  have e : (lnoise i k : FVec F S16x512 .f32) j = lw (key k2 5#32 (odd (key 1#32 (k2 + 4#32) (lE i k j, lF i k j)))) := pay37 _ _ _ _ _ _
  rw [h, e, words]
  rfl

/-- What is taken off the logits of the tail chunk. -/
def tnoise (a c : BitVec 32) (x y : IVec S16x512 32) : FVec F S16x512 .f32 :=
  fun j => FloatOps.log (FloatOps.subf (Scalar.ofBits .f32 0x2EDBE6FF#32) (lw (key a c (rnd 6#32 26#32 (x j, y j ^^^ x j)))))

theorem tnoise_eq (i : grid0.Coords) (j : S16x512.Idx) :
    tnoise (F := F) key2 (Scalar.addi 0#32 5#32) (tG i) (tH i) j = gum (place i 195 j) := by
  have e : tnoise (F := F) key2 (Scalar.addi 0#32 5#32) (tG i) (tH i) j
    = FloatOps.log (FloatOps.subf (Scalar.ofBits .f32 0x2EDBE6FF#32) (lw (key k2 5#32 (rnd 6#32 26#32 (tG i j, tH i j ^^^ tG i j))))) := rfl
  rw [e, wordsT]
  rfl

/-- The tail chunk's perturbed logits, −∞ past the array's end. -/
def tailScore (i : grid0.Coords) (v : Vec F S16x512 .f32) : FVec F S16x512 .f32 :=
  fun j => if k0_pay44 j = 1#1 then FloatOps.subf (v j) (gum (place i 195 j)) else Scalar.ofBits .f32 0xFF800000#32

/-- The last step of the search: the tail chunk's values `z` joined to the maxima, and the first column of a row's maximum. -/
def finish (m : FVec F S16x512 .f32) (b : IVec S16x512 32) (z : FVec F S16x512 .f32) : IVec S16x1 32 :=
  shapeCast S16x1 (multiReductionI .minsi [1] S16
    (select (cmpf .oeq (maximumf z m) (broadcastTo S16x512 (shapeCast S16x1
        (multiReduction .maximumf [1] S16 (maximumf z m) 0xFF800000#32 reduces_S16x512_S16 (.inl rfl) rfl) shapeCasts_S16_S16x1) broadcasts_S16x1_S16x512))
      (addi (muli (select (cmpf .ogt z m) (broadcast S16x512 195#32) b) (broadcast S16x512 512#32)) lanes)
      (broadcast S16x512 100000#32)) 2147483647#32 reduces_S16x512_S16 rfl) shapeCasts_S16_S16x1

theorem pay85 (m : FVec F S16x512 .f32) (b : IVec S16x512 32) (q : IVec S16x512 1) (a c : BitVec 32) (x y : IVec S16x512 32) (v : Vec F S16x512 .f32) :
    k0_pay85 lanes m b q a c x y v
      = finish m b (select q (subf v (tnoise a c x y)) (broadcast S16x512 (Scalar.ofBits .f32 0xFF800000#32))) := rfl

theorem best_eq (i : grid0.Coords) (X : S16x100352.Idx → Elt F .f32) :
    best i X = finish (carry i X k0_t1_loop.trips).1 (carry i X k0_t1_loop.trips).2
      (tailScore i (View.ld (Val := Elt F) X (Rect.unit (s := S16x100352) ![0, 99840] S16x512.size inb_S16x100352_S16x512_0_99840))) := by
  have hz (v : Vec F S16x512 .f32) : select k0_pay44 (subf v (tnoise key2 (Scalar.addi 0#32 5#32) (tG i) (tH i)))
      (broadcast S16x512 (Scalar.ofBits .f32 0xFF800000#32)) = tailScore i v := by
    funext j
    unfold select subf broadcast tailScore
    rw [tnoise_eq]
    rfl
  unfold best
  rw [pay85, hz]

end Cert.KernelIdeal.Own

end
-- ==== Proof.KernelRun.lean ====
/-
  The run of the whole kernel, for any float values: eight tiles of sixteen rows, each staged tile overhanging the
  array by 352 columns whose contents nothing states. The column found for a row does not depend on those, so each
  write-back is determined, and the result array is `res` of the argument array.
-/
module

public import proofs.«01_k».proof.Proof.KernelWords
public import proofs.«01_k».proof.Proof.Gen.KernelIdeal.Points
public import Idealize.ShloMosaic.Lib.Pipeline.ValueKit

@[expose] public section

noncomputable section

namespace Cert.KernelIdeal.Own

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-! ## What the columns past the array's end do not change -/

/-- The lanes of the tail chunk that are columns of the array. -/
theorem inside (j : S16x512.Idx) : k0_pay44 j = 1#1 ↔ (j 1).val < 160 := by
  have h : ∀ n : Fin 512, IntOp.cmpi .slt (IntOp.addi (BitVec.ofNat 32 (0 * 512 + n.val)) 99840#32) 100000#32 = 1#1 ↔ n.val < 160 := by
    decide +kernel
  exact h (j 1)

/-- Trips of the search loop read columns of the array only. -/
theorem chunk_congr (X X' : S16x100352.Idx → Elt F .f32) (h : ∀ y : S16x100352.Idx, (y 1).val < 100000 → X y = X' y)
    (k : Fin k0_t1_loop.trips) : chunk X k = chunk X' k := by
  have hk : k.val < 195 := Nat.lt_of_lt_of_le k.isLt k0_t1_abs.2.1
  funext j
  refine h _ ?_
  have hj : (j 1).val < 512 := (j 1).isLt
  have e : k0_off1 k 1 = 512 * k.val := by rw [k0_off1_eq]; rfl
  change k0_off1 k 1 + 1 * (j 1).val < 100000
  rw [e]; omega

theorem carry_congr (i : grid0.Coords) (X X' : S16x100352.Idx → Elt F .f32) (h : ∀ y : S16x100352.Idx, (y 1).val < 100000 → X y = X' y)
    (n : ℕ) : carry i X n = carry i X' n := by
  induction n with
  | zero => rfl
  | succ n ih =>
    unfold carry
    rw [ih]
    split
    · unfold trip
      rw [chunk_congr X X' h]
    · rfl

theorem best_congr (i : grid0.Coords) (X X' : S16x100352.Idx → Elt F .f32) (h : ∀ y : S16x100352.Idx, (y 1).val < 100000 → X y = X' y) :
    best i X = best i X' := by
  have e : tailScore i (View.ld (Val := Elt F) X (Rect.unit (s := S16x100352) ![0, 99840] S16x512.size inb_S16x100352_S16x512_0_99840))
      = tailScore i (View.ld (Val := Elt F) X' (Rect.unit (s := S16x100352) ![0, 99840] S16x512.size inb_S16x100352_S16x512_0_99840)) := by
    funext j
    unfold tailScore
    split
    · rename_i hj
      have hj' := (inside j).mp hj
      exact congrArg (fun v => FloatOps.subf v (gum (place i 195 j))) (h _ (by
        change 99840 + 1 * (j 1).val < 100000
        omega))
    · rfl
  rw [best_eq, best_eq, carry_congr i X X' h, e]

theorem outTile_congr (i : grid0.Coords) (X X' : S16x100352.Idx → Elt F .f32) (h : ∀ y : S16x100352.Idx, (y 1).val < 100000 → X y = X' y) :
    outTile i X = outTile i X' := by
  unfold outTile
  rw [best_congr i X X' h]

/-! ## The proof data -/

/-- The embedding of the pipeline's rounds in the proof's resource algebra. -/
abbrev EP : Emb (UR sig nD τ) (MT nD τ sig Unit (Elt F) ℕ (UR sig nD τ) ℕ) := emb₁

/-- No variant is used. -/
abbrev 𝒱₀ : Variants := Variants.none

variable (m : (ℓ : Loc nD τ sig) → Buf (Elt F) ℓ) (ρ : Dev nD → PrngReg)

/-- The part of the tile at point `t` that lies in the argument array. -/
def blk (c : Dev nD) (t : Fin cfg0.N) : (win0_0.xblock (grid0.coords t)).Idx → Elt F .f32 :=
  (win0_0.blk t).view.read (Elt F) (m ((c : Thread nD τ).loc main_arg0))

/-- That part, filled out to a whole tile with zeros. -/
def tile (c : Dev nD) (t : Fin cfg0.N) : S16x100352.Idx → Elt F .f32 :=
  win0_0.fill (grid0.coords t) (fun _ => Scalar.ofBits .f32 0#32) (blk m c t)

/-- The proof data: the arrays as launched, and after the body at `t` the argument's tile and its `outTile`. -/
def dats (_ : Fin 1) (c : Dev nD) : Dat τ (Elt F) Unit ℕ (UR sig nD τ) ℕ cfg0 c where
  A w := (s₀ m ρ).mem ((cfg0.win w).arr.view.loc (c : Thread nD τ))
  after w t := match w with
    | ⟨0, _⟩ => tile m c t
    | ⟨1, _⟩ => outTile (grid0.coords t) (tile m c t)
  Φ _ := iprop(emp)
  q _ := fullShare
  owed _ := 0

/-- Every column of the array is moved. -/
theorem fill_apply (t : Fin cfg0.N) (d : S16x100352.Idx → Elt F .f32) (g : (win0_0.xblock (grid0.coords t)).Idx → Elt F .f32)
    (y : S16x100352.Idx) (hy : (y 1).val < 100000) :
    ∃ h : ∀ a, (y a).val < win0_0.xsize (grid0.coords t) a, win0_0.fill (grid0.coords t) d g y = g fun a => ⟨(y a).val, h a⟩ := by
  have h : ∀ a, (y a).val < win0_0.xsize (grid0.coords t) a := by
    have e : ∀ t : Fin grid0.N, win0_0.xsize (grid0.coords t) = ![16, 100000] := by decide +kernel
    intro a
    rw [e t]
    match a with
    | ⟨0, _⟩ => exact (y 0).isLt
    | ⟨1, _⟩ => exact hy
  refine ⟨h, ?_⟩
  unfold Window.fill
  rw [dif_pos ((win0_0.moved_iff (grid0.coords t) y).mpr h)]

theorem fill_congr (t : Fin cfg0.N) (d d' : S16x100352.Idx → Elt F .f32) (g : (win0_0.xblock (grid0.coords t)).Idx → Elt F .f32)
    (y : S16x100352.Idx) (hy : (y 1).val < 100000) : win0_0.fill (grid0.coords t) d g y = win0_0.fill (grid0.coords t) d' g y := by
  obtain ⟨_, e⟩ := fill_apply t d g y hy
  obtain ⟨_, e'⟩ := fill_apply t d' g y hy
  rw [e, e']

theorem before_0 (c : Dev nD) (t : Fin cfg0.N) (d) :
    (dats m ρ 0 c).before (0 : Fin 2) t d = win0_0.fill (grid0.coords t) d (blk m c t) := by
  unfold Dat.before; rw [if_pos (fetch0_0 t)]; rfl

theorem after_1 (c : Dev nD) (t : Fin cfg0.N) :
    (dats m ρ 0 c).after (1 : Fin 2) t = outTile (grid0.coords t) (tile m c t) := by
  generalize ho : outTile (grid0.coords t) (tile m c t) = o
  unfold dats
  rw [← ho]

theorem body_obligation (c : Dev nD) : BodyObligationLoose (dats m ρ 0 c) (defs₀ (F := F)) 𝒱₀ () Set.univ := fun t => by
  rw [bigSep_W0, bigSep_W0]
  simp only
  rw [show (dats m ρ 0 c).Φ t.succ = (dats m ρ 0 c).Φ t.castSucc from rfl,
    show (dats m ρ 0 c).owesAt () t.succ = (dats m ρ 0 c).owesAt () t.castSucc from rfl]
  iintro ⟨HΦ, Ho, ⟨%d0, H0⟩, ⟨%d1, H1⟩⟩
  rw [before_0 m ρ c t d0]
  iapply (body_run (F := F) 𝒱₀ c none Set.univ (grid0.coords t) (stage0_0 (cfg0.slots t 0)) (hstage0_0 (cfg0.slots t 0))
    (stage0_1 (cfg0.slots t 1)) (hstage0_1 (cfg0.slots t 1)) (win0_0.fill (grid0.coords t) d0 (blk m c t)) _ _)
  isplitl [H0 H1]
  · isplitl [H0]
    · iexact H0
    · iexact H1
  iintro ⟨H0, H1⟩
  isplitl [HΦ]; · iexact HΦ
  isplitl [Ho]; · iexact Ho
  have hx : win0_0.cut (grid0.coords t) (tile m c t) = blk m c t := win0_0.cut_fill _ _ _
  have ho : outTile (grid0.coords t) (win0_0.fill (grid0.coords t) d0 (blk m c t)) = outTile (grid0.coords t) (tile m c t) :=
    outTile_congr _ _ _ (fill_congr t _ _ _)
  rw [ho]
  isplitl [H0]
  · iexists d0
    change _ ⊢ owns (c : Thread nD τ) (stage0_0 (cfg0.slots t 0)) fullShare (win0_0.fill (grid0.coords t) d0 (win0_0.cut (grid0.coords t) (tile m c t)))
    rw [hx]; try iexact H0
  · iexists outTile (grid0.coords t) (tile m c t)
    rw [after_1, Window.fill_cut]
    try iexact H1

/-! ## The launch -/

/-- What the launch hands the pipeline. -/
def u₀ : UR sig nD τ := initOf (Pipeline.cells cfgs launch0.cellOf_inj) (Pipeline.launchToks cfgs launch0.cellOf_inj)

/-- An array's contents after the run. -/
def finalA (c : Dev nD) (w : Fin cfg0.W) : Buf (Elt F) ((cfg0.win w).arr.view.loc (c : Thread nD τ)) :=
  (dats m ρ 0 c).arrAt w cfg0.N

/-- Every array of the kernel holds `finalA`. -/
def QC : PUnit × MemSt nD τ sig (Elt F) → Prop := fun r =>
  ∀ (c : Dev nD) (w : Fin cfg0.W), r.2.mem ((cfg0.win w).arr.view.loc (c : Thread nD τ)) = finalA m ρ c w

set_option backward.isDefEq.respectTransparency.types false in
/-- The kernel runs to its end, the arrays end at `finalA` and every semaphore counter at zero. -/
theorem run_main : θ_run defs (onTc (τ := τ) (main (F := F))) (s₀ m ρ) (fun r => QC m ρ r ∧ r.2.sem = fun _ => 0) :=
  Pipeline.θ_run_region_noSem_kit_quiescent cfgs (dats m ρ) () (0 : Fin 1) launch0 EP defs₀ 𝒱₀ m ρ main
    (hbody := body_obligation m ρ)
    (hshare := fun c => (dats m ρ 0 c).share_full fun _ => rfl) (howed := fun _ _ => rfl)
    (u₀ := u₀) (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hA := fun _ _ => rfl)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h hz => ⟨fun c w => (h c).1 w, hz⟩)

/-- The argument ends as it was. -/
theorem finalA_arg (c : Dev nD) : finalA m ρ c (0 : Fin 2) = m ((c : Thread nD τ).loc main_arg0) :=
  (dats (F := F) m ρ 0 c).arrAt_in (0 : Fin 2) rfl _

/-! ## The result array -/

theorem points : cfg0.N = 8 := by decide +kernel

/-- The point whose tile holds row `r`. -/
def pt (r : Fin 128) : Fin cfg0.N := ⟨r.val / 16, by rw [points]; exact Nat.div_lt_of_lt_mul r.isLt⟩

/-- The place in its tile of an element of the array. -/
def inTile (y : S128x100000.Idx) : S16x100352.Idx :=
  ix2 (⟨(y 0).val % 16, Nat.mod_lt _ (by decide)⟩ : Fin 16)
    (⟨(y 1).val, Nat.lt_trans (show (y 1).val < 100000 from (y 1).isLt) (by decide)⟩ : Fin 100352)

/-- The result array: at every element, what the tile of its row holds there. -/
def res (c : Dev nD) : S128x100000.Idx → Elt F .f32 := fun y =>
  outTile (grid0.coords (pt (y 0))) (tile m c (pt (y 0))) (inTile y)

theorem finalA_out (c : Dev nD) : finalA m ρ c (1 : Fin 2) = res m c := by
  refine (dats (F := F) m ρ 0 c).arrAt_eq_of_covers (1 : Fin 2) (res m c) (by decide +kernel) fun t hf y => ?_
  rw [after_1]
  have e : ∀ t : Fin cfg0.N, win0_1.index t = ![t.val, 0] := (by decide +kernel : ∀ t : Fin grid0.N, _)
  have e16 : ∀ t : Fin grid0.N, win0_1.xsize (grid0.coords t) = ![16, 100000] := by decide +kernel
  have h0 : (y 0).val < 16 := Nat.lt_of_lt_of_eq (y 0).isLt (congrFun (e16 t) 0)
  have h1 : (((cfg0.win 1).blk t).view.emb y 0).val = t.val * 16 + (y 0).val :=
    (win0_1.rect_emb_val t y 0).trans (by rw [e]; rfl)
  have h2 : (((cfg0.win 1).blk t).view.emb y 1).val = (y 1).val :=
    win0_1.rect_emb_val_of_index_zero t 1 (by rw [e]; rfl) y
  have hp : pt (((cfg0.win 1).blk t).view.emb y 0) = t := Fin.ext (by
    change (((cfg0.win 1).blk t).view.emb y 0).val / 16 = t.val
    rw [h1]; omega)
  have hi : inTile (((cfg0.win 1).blk t).view.emb y) = (cfg0.win 1).xinj (cfg0.grid.coords t) y := by
    funext a
    match a with
    | ⟨0, _⟩ =>
      refine Fin.ext ?_
      change (((cfg0.win 1).blk t).view.emb y 0).val % 16 = (y 0).val
      rw [h1]; omega
    | ⟨1, _⟩ => exact Fin.ext h2
  have hr : res m c (((cfg0.win 1).blk t).view.emb y)
      = outTile (grid0.coords t) (tile m c t) ((cfg0.win 1).xinj (cfg0.grid.coords t) y) := by
    unfold res
    rw [hp, hi]
  generalize outTile (grid0.coords t) (tile m c t) = o at hr ⊢
  exact hr.symm

/-- The kernel's result and argument after the run. -/
theorem run_value : θ_run defs (onTc (τ := τ) (main (F := F))) (s₀ m ρ) (fun r =>
    (∀ c : Dev nD, r.2.mem ((c : Thread nD τ).loc main_v0) = res m c ∧ r.2.mem ((c : Thread nD τ).loc main_arg0) = m ((c : Thread nD τ).loc main_arg0))
      ∧ r.2.sem = fun _ => 0) :=
  θ_run_mono (run_main m ρ) (fun _ h => ⟨fun c => ⟨(h.1 c (1 : Fin 2)).trans (finalA_out m ρ c), (h.1 c (0 : Fin 2)).trans (finalA_arg m ρ c)⟩, h.2⟩)

/-! ## The result at coordinates -/

/-- A tile's element is the argument's. -/
theorem tile_apply (c : Dev nD) (t : Fin cfg0.N) (y : S16x100352.Idx) (z : S128x100000.Idx)
    (h0 : (z 0).val = t.val * 16 + (y 0).val) (h1 : (z 1).val = (y 1).val) :
    tile m c t y = m ((c : Thread nD τ).loc main_arg0) z := by
  have e : ∀ t : Fin cfg0.N, win0_0.index t = ![t.val, 0] := (by decide +kernel : ∀ t : Fin grid0.N, _)
  have hy : (y 1).val < 100000 := h1 ▸ (z 1).isLt
  obtain ⟨h, hh⟩ := fill_apply t (fun _ => Scalar.ofBits .f32 0#32) (blk m c t) y hy
  refine hh.trans (congrArg (m ((c : Thread nD τ).loc main_arg0)) ?_)
  funext a
  match a with
  | ⟨0, _⟩ =>
    exact Fin.ext (((win0_0.rect_emb_val t _ 0).trans (by rw [e]; rfl)).trans h0.symm)
  | ⟨1, _⟩ =>
    exact Fin.ext ((win0_0.rect_emb_val_of_index_zero t 1 (by rw [e]; rfl) _).trans h1.symm)

/-- A choice by an equality test. -/
theorem select_eq {α : Type} (a b : BitVec 32) (x y : α) :
    Scalar.select (IntOp.cmpi .eq a b) x y = if a = b then x else y := by
  unfold Scalar.select IntOp.cmpi
  by_cases h : a = b
  · rw [if_pos h, h]; simp
  · rw [if_neg h, show (a == b) = false from beq_eq_false_iff_ne.mpr h]; rfl

/-- The stored tile is one where the column is the one found for the row, zero elsewhere. -/
theorem outTile_apply (i : grid0.Coords) (X : S16x100352.Idx → Elt F .f32) (y : S16x100352.Idx) :
    outTile i X y = if BitVec.ofNat 32 (y 1).val = best i X (ix2 (y 0 : Fin 16) (0 : Fin 1))
      then FloatOps.ofBits .f32 0x3F800000#32 else FloatOps.ofBits .f32 0x00000000#32 := by
  generalize hb : best i X = b
  unfold outTile
  rw [hb]
  have e1 : broadcastTo S16x512 b broadcasts_S16x1_S16x512 (laneOf y) = b (ix2 (y 0 : Fin 16) (0 : Fin 1)) :=
    broadcastTo_apply b _ _ _ fun a => by
      match a with
      | ⟨0, _⟩ => rfl
      | ⟨1, _⟩ => rfl
  have e2 : IntOp.addi (lanes (laneOf y)) (Scalar.muli (Scf.iv 0#32 1#32 (chunkOf y)) 512#32) = BitVec.ofNat 32 (y 1).val := by
    change BitVec.ofNat 32 (0 * 512 + (y 1).val % 512) + (0#32 + BitVec.ofNat 32 ((y 1).val / 512) * 1#32) * 512#32 = _
    rw [Nat.zero_mul, Nat.zero_add, BitVec.mul_one, BitVec.zero_add, ← BitVec.ofNat_mul, ← BitVec.ofNat_add]
    congr 1
    omega
  change Scalar.select (IntOp.cmpi .eq (IntOp.addi (lanes (laneOf y)) (Scalar.muli (Scf.iv 0#32 1#32 (chunkOf y)) 512#32))
    (broadcastTo S16x512 b broadcasts_S16x1_S16x512 (laneOf y))) _ _ = _
  rw [e1, e2]
  exact select_eq _ _ _ _

end Cert.KernelIdeal.Own

end
-- ==== Proof.Line.lean ====
/-
  A line of host operations in which every operation writes one buffer that no earlier operation touches: after the
  line, each written buffer holds its operation's function of what the operand buffers hold at the end (`Line.eqns`).
  So the final contents satisfy one equation per operation, and a proof reads the equations it needs in any order
  instead of composing the operations into one term. Also: the run of a program that is such a line.
-/
module

public import proofs.«01_k».proof.Proof.Gen.ReferenceIdeal
public import Idealize.ShloMosaic.Lib.StableHlo.Run
public import Idealize.ShloMosaic.Lib.Quiescent

@[expose] public section

noncomputable section

namespace Cert.Proof.Host

open Idealize.ShloMosaic Idealize.ShloMosaic.StableHlo Idealize.SL.Sem

variable {τ : Topo} {sig : RefSig} {Val : EltTy → Type} {nD : ℕ} {Λ : Labels}

/-- The contents `W` satisfy `op`'s equation: what `op` writes is its result on contents that agree with `W` on
    everything else that `op` touches. -/
def Eqn (W : Valuation τ sig Val) (op : HloOp τ sig Val) : Prop :=
  ∃ G : Valuation τ sig Val, (∀ b ∈ op.bufs, b ∉ op.writes → G b = W b) ∧ ∀ b ∈ op.writes, W b = op.result G b

/-- `op` writes only buffers of index `n`, touches none of a larger index, and leaves nothing undetermined. -/
structure Step (n : ℕ) (op : HloOp τ sig Val) : Prop where
  tc : op.bufs ⊆ tcRefs τ sig
  le : ∀ r : Ref sig .tc, Proc.devRef .tc r ∈ op.bufs → r.idx.val ≤ n
  eq : ∀ r : Ref sig .tc, Proc.devRef .tc r ∈ op.writes → r.idx.val = n
  det : op.fresh = ∅

/-- The operations write buffers of strictly increasing index, all above `n`. -/
inductive Line : ℕ → List (HloOp τ sig Val) → Prop
  | nil (n : ℕ) : Line n []
  | cons {n k : ℕ} {op : HloOp τ sig Val} {ops : List (HloOp τ sig Val)} (h : n < k) (s : Step k op) (l : Line k ops) :
      Line n (op :: ops)

namespace Line

theorem keeps {n : ℕ} {ops : List (HloOp τ sig Val)} (h : Line n ops) (V : Valuation τ sig Val) (r : Ref sig .tc)
    (hr : r.idx.val ≤ n) : after ops V (Proc.devRef .tc r) = V (Proc.devRef .tc r) := by
  induction h generalizing V with
  | nil => rfl
  | @cons n k op ops hk s _ ih =>
    rw [after_cons, ih _ (by omega), HloOp.result_of_not_mem]
    intro hm
    have := s.eq r hm
    omega

theorem sub {n : ℕ} {ops : List (HloOp τ sig Val)} (h : Line n ops) : ops.Forall fun op => op.bufs ⊆ tcRefs τ sig := by
  induction h with
  | nil => trivial
  | cons _ s _ ih => exact (List.forall_cons _ _ _).mpr ⟨s.tc, ih⟩

theorem det {n : ℕ} {ops : List (HloOp τ sig Val)} (h : Line n ops) : ∀ op ∈ ops, op.fresh = ∅ := by
  induction h with
  | nil => intro op hop; cases hop
  | cons _ s _ ih =>
    intro op hop
    rcases List.mem_cons.mp hop with rfl | hop
    · exact s.det
    · exact ih op hop

/-- Every operation's equation holds of the contents after the line. -/
theorem eqns {n : ℕ} {ops : List (HloOp τ sig Val)} (h : Line n ops) (V : Valuation τ sig Val) :
    ops.Forall (Eqn (after ops V)) := by
  induction h generalizing V with
  | nil => trivial
  | @cons n k op ops hk s l ih =>
    refine (List.forall_cons _ _ _).mpr ⟨⟨V, fun b hb hw => ?_, fun b hb => ?_⟩, ih _⟩
    · obtain ⟨r, -, rfl⟩ := Finset.mem_map.mp (s.tc hb)
      exact ((l.keeps _ r (s.le r hb)).trans (HloOp.result_of_not_mem _ _ hw)).symm
    · obtain ⟨r, -, rfl⟩ := Finset.mem_map.mp (s.tc (op.writes_sub hb))
      exact l.keeps _ r (s.eq r hb).le

end Line

/-! ## The builders -/

variable {T Tx Ta Tb Tc Te Ty : BufTy}

private theorem eq_of_mem {y r : Ref sig .tc} (h : Proc.devRef (τ := τ) .tc r ∈ ({Proc.devRef .tc y} : Finset (DevRef τ sig))) : r = y :=
  Proc.devRef_injective _ (Finset.mem_singleton.mp h)

theorem step_nullary (y : TRef sig Ty) (v : Ty.Contents Val) : Step (τ := τ) y.ref.idx.val (TRef.nullary y v) where
  tc := nullary_bufs_sub _ _ _
  le r h := by cases eq_of_mem (τ := τ) h; exact le_rfl
  eq r h := by cases eq_of_mem (τ := τ) h; rfl
  det := rfl

theorem step_unary (x : TRef sig Tx) (y : TRef sig Ty) (f : Tx.Contents Val → Ty.Contents Val) (hx : x.ref.idx.val < y.ref.idx.val) :
    Step (τ := τ) y.ref.idx.val (TRef.unary x y f) where
  tc := unary_bufs_sub _ _ _ _ _
  le r h := by
    rcases Finset.mem_insert.mp h with h | h
    · cases Proc.devRef_injective _ h; exact hx.le
    · cases eq_of_mem (τ := τ) h; exact le_rfl
  eq r h := by cases eq_of_mem (τ := τ) h; rfl
  det := rfl

theorem step_reshape (x : TRef sig Tx) (y : TRef sig Ty) (he : Tx.elt = Ty.elt) (hn : Tx.shape.ShapeCasts Ty.shape)
    (hx : x.ref.idx.val < y.ref.idx.val) : Step (τ := τ) (Val := Val) y.ref.idx.val (TRef.reshape x y he hn) where
  tc := reshape_bufs_sub _ _ _ _ _ _
  le r h := by
    rcases Finset.mem_insert.mp h with h | h
    · cases Proc.devRef_injective _ h; exact hx.le
    · cases eq_of_mem (τ := τ) h; exact le_rfl
  eq r h := by cases eq_of_mem (τ := τ) h; rfl
  det := rfl

theorem step_binary (a : TRef sig Ta) (b : TRef sig Tb) (y : TRef sig Ty) (f : Ta.Contents Val → Tb.Contents Val → Ty.Contents Val)
    (ha : a.ref.idx.val < y.ref.idx.val) (hb : b.ref.idx.val < y.ref.idx.val) :
    Step (τ := τ) y.ref.idx.val (TRef.binary a b y f) where
  tc := binary_bufs_sub _ _ _ _ _ _ _
  le r h := by
    rcases Finset.mem_insert.mp h with h | h
    · cases Proc.devRef_injective _ h; exact ha.le
    rcases Finset.mem_insert.mp h with h | h
    · cases Proc.devRef_injective _ h; exact hb.le
    · cases eq_of_mem (τ := τ) h; exact le_rfl
  eq r h := by cases eq_of_mem (τ := τ) h; rfl
  det := rfl

theorem step_ternary (c : TRef sig Tc) (a : TRef sig Ta) (b : TRef sig Tb) (y : TRef sig Ty)
    (f : Tc.Contents Val → Ta.Contents Val → Tb.Contents Val → Ty.Contents Val) (hc : c.ref.idx.val < y.ref.idx.val)
    (ha : a.ref.idx.val < y.ref.idx.val) (hb : b.ref.idx.val < y.ref.idx.val) :
    Step (τ := τ) y.ref.idx.val (TRef.ternary c a b y f) where
  tc := ternary_bufs_sub _ _ _ _ _ _ _ _ _
  le r h := by
    rcases Finset.mem_insert.mp h with h | h
    · cases Proc.devRef_injective _ h; exact hc.le
    rcases Finset.mem_insert.mp h with h | h
    · cases Proc.devRef_injective _ h; exact ha.le
    rcases Finset.mem_insert.mp h with h | h
    · cases Proc.devRef_injective _ h; exact hb.le
    · cases eq_of_mem (τ := τ) h; exact le_rfl
  eq r h := by cases eq_of_mem (τ := τ) h; rfl
  det := rfl

theorem step_quaternary (a : TRef sig Ta) (b : TRef sig Tb) (c : TRef sig Tc) (e : TRef sig Te) (y : TRef sig Ty)
    (f : Ta.Contents Val → Tb.Contents Val → Tc.Contents Val → Te.Contents Val → Ty.Contents Val)
    (ha : a.ref.idx.val < y.ref.idx.val) (hb : b.ref.idx.val < y.ref.idx.val) (hc : c.ref.idx.val < y.ref.idx.val)
    (he : e.ref.idx.val < y.ref.idx.val) :
    Step (τ := τ) y.ref.idx.val (TRef.quaternary a b c e y f) where
  tc := quaternary_bufs_sub _ _ _ _ _ _ _ _ _ _ _
  le r h := by
    rcases Finset.mem_insert.mp h with h | h
    · cases Proc.devRef_injective _ h; exact ha.le
    rcases Finset.mem_insert.mp h with h | h
    · cases Proc.devRef_injective _ h; exact hb.le
    rcases Finset.mem_insert.mp h with h | h
    · cases Proc.devRef_injective _ h; exact hc.le
    rcases Finset.mem_insert.mp h with h | h
    · cases Proc.devRef_injective _ h; exact he.le
    · cases eq_of_mem (τ := τ) h; exact le_rfl
  eq r h := by cases eq_of_mem (τ := τ) h; rfl
  det := rfl

/-- What a typed reference's buffer holds under `W`, at the value's type. -/
def val (W : Valuation τ sig Val) (y : TRef sig T) : T.Contents Val := y.ofBuf (W (Proc.devRef .tc y.ref))

variable {W : Valuation τ sig Val}

private theorem operand {op : HloOp τ sig Val} {G : Valuation τ sig Val} {y : Ref sig .tc} (x : TRef sig Tx)
    (hG : ∀ b ∈ op.bufs, b ∉ op.writes → G b = W b) (hw : op.writes = {Proc.devRef .tc y})
    (hm : Proc.devRef .tc x.ref ∈ op.bufs) (hne : x.ref ≠ y) : val G x = val W x := by
  unfold val
  rw [hG _ hm (by rw [hw, Finset.mem_singleton]; exact devRef_ne_of_ne hne)]

theorem eqn_nullary {y : TRef sig Ty} {v : Ty.Contents Val} (h : Eqn W (TRef.nullary y v)) : val W y = v := by
  obtain ⟨G, hG, h⟩ := h
  have h := h (Proc.devRef .tc y.ref) (Finset.mem_singleton_self _)
  rw [nullary_result'] at h
  rw [val, h, TRef.ofBuf, TRef.toBuf, cast_cast, cast_eq]

theorem eqn_unary {x : TRef sig Tx} {y : TRef sig Ty} {f : Tx.Contents Val → Ty.Contents Val}
    (h : Eqn W (TRef.unary x y f)) (hx : x.ref ≠ y.ref) : val W y = f (val W x) := by
  obtain ⟨G, hG, h⟩ := h
  have h := h (Proc.devRef .tc y.ref) (Finset.mem_singleton_self _)
  rw [unary_result'] at h
  rw [val, h, TRef.ofBuf, TRef.toBuf, cast_cast, cast_eq, ← operand (y := y.ref) x hG rfl (by simp [unary_bufs]) hx]
  rfl

theorem eqn_binary {a : TRef sig Ta} {b : TRef sig Tb} {y : TRef sig Ty} {f : Ta.Contents Val → Tb.Contents Val → Ty.Contents Val}
    (h : Eqn W (TRef.binary a b y f)) (ha : a.ref ≠ y.ref) (hb : b.ref ≠ y.ref) : val W y = f (val W a) (val W b) := by
  obtain ⟨G, hG, h⟩ := h
  have h := h (Proc.devRef .tc y.ref) (Finset.mem_singleton_self _)
  rw [binary_result'] at h
  rw [val, h, TRef.ofBuf, TRef.toBuf, cast_cast, cast_eq, ← operand (y := y.ref) a hG rfl (by simp [binary_bufs]) ha,
    ← operand (y := y.ref) b hG rfl (by simp [binary_bufs]) hb]
  rfl

theorem eqn_ternary {c : TRef sig Tc} {a : TRef sig Ta} {b : TRef sig Tb} {y : TRef sig Ty}
    {f : Tc.Contents Val → Ta.Contents Val → Tb.Contents Val → Ty.Contents Val}
    (h : Eqn W (TRef.ternary c a b y f)) (hc : c.ref ≠ y.ref) (ha : a.ref ≠ y.ref) (hb : b.ref ≠ y.ref) :
    val W y = f (val W c) (val W a) (val W b) := by
  obtain ⟨G, hG, h⟩ := h
  have h := h (Proc.devRef .tc y.ref) (Finset.mem_singleton_self _)
  rw [ternary_result'] at h
  rw [val, h, TRef.ofBuf, TRef.toBuf, cast_cast, cast_eq, ← operand (y := y.ref) c hG rfl (by simp [ternary_bufs]) hc,
    ← operand (y := y.ref) a hG rfl (by simp [ternary_bufs]) ha, ← operand (y := y.ref) b hG rfl (by simp [ternary_bufs]) hb]
  rfl

theorem eqn_quaternary {a : TRef sig Ta} {b : TRef sig Tb} {c : TRef sig Tc} {e : TRef sig Te} {y : TRef sig Ty}
    {f : Ta.Contents Val → Tb.Contents Val → Tc.Contents Val → Te.Contents Val → Ty.Contents Val}
    (h : Eqn W (TRef.quaternary a b c e y f)) (ha : a.ref ≠ y.ref) (hb : b.ref ≠ y.ref) (hc : c.ref ≠ y.ref)
    (he : e.ref ≠ y.ref) : val W y = f (val W a) (val W b) (val W c) (val W e) := by
  obtain ⟨G, hG, h⟩ := h
  have h := h (Proc.devRef .tc y.ref) (Finset.mem_singleton_self _)
  rw [quaternary_result'] at h
  rw [val, h, TRef.ofBuf, TRef.toBuf, cast_cast, cast_eq, ← operand (y := y.ref) a hG rfl (by simp [quaternary_bufs]) ha,
    ← operand (y := y.ref) b hG rfl (by simp [quaternary_bufs]) hb, ← operand (y := y.ref) c hG rfl (by simp [quaternary_bufs]) hc,
    ← operand (y := y.ref) e hG rfl (by simp [quaternary_bufs]) he]
  rfl

/-- The same for a reshape between two literal references' buffers. -/
theorem eqn_reshape {x : TRef sig Tx} {y : TRef sig Ty} {he : Tx.elt = Ty.elt} {hn : Tx.shape.ShapeCasts Ty.shape}
    (h : Eqn W (TRef.reshape x y he hn)) (hx : x.ref ≠ y.ref) :
    val W y = fun i => he ▸ shapeCast Ty.shape (val W x) hn i := by
  obtain ⟨x, rfl, hx1, hx2⟩ := x
  obtain ⟨y, rfl, hy1, hy2⟩ := y
  obtain ⟨G, hG, h⟩ := h
  have h := h (Proc.devRef .tc y) (Finset.mem_singleton_self _)
  rw [reshape_result'] at h
  have e : G (Proc.devRef .tc x) = W (Proc.devRef .tc x) :=
    hG _ (by simp [reshape_bufs]) (by rw [reshape_writes, Finset.mem_singleton]; exact devRef_ne_of_ne hx)
  rw [e] at h
  exact h

end Cert.Proof.Host

end
-- ==== Proof.RefOps.lean ====
/-
  The reference program's operations as one list, in the order the program runs them, and the run that follows: every
  buffer ends at what the list leaves in it, and the final contents satisfy each operation's equation. The random-bits
  function's body is twenty copies of one round of nine operations and five copies of one key addition of seven, so it is
  written here as those two short lists applied to the buffers each copy uses.
-/
module

public import proofs.«01_k».proof.Proof.Line
public import Idealize.ShloMosaic.Lib.StableHlo.RunHlo
public import Idealize.ShloMosaic.Lib.Pipeline.Regions

@[expose] public section

set_option maxRecDepth 100000

noncomputable section

namespace Cert.Proof.Ref

open Cert.ReferenceIdeal Cert.ReferenceIdeal.Facts₀
open Idealize.ShloMosaic Idealize.ShloMosaic.TcCoe Idealize.ShloMosaic.StableHlo Idealize.SL.Sem
open Cert.Proof.Host

variable {F : FTy → Type} [FloatOps F]

/-! ## The buffers, at their types -/

abbrev u : fn_uniform.Bufs := main_call0
abbrev k : fn_threefry2x32.Bufs := main_call0_call0
abbrev a : fn_argmax.Bufs := main_call1

abbrev r_arg0 : TRef sig ⟨S128x100000, .f32⟩ := .of main_arg0
abbrev r_c : TRef sig ⟨S_, .i32⟩ := .of main_c
abbrev r_c_0 : TRef sig ⟨S_, .i32⟩ := .of main_c_0
abbrev r_v0 : TRef sig ⟨S_, .i32⟩ := .of main_v0
abbrev r_v1 : TRef sig ⟨S_, .i32⟩ := .of main_v1
abbrev r_v2 : TRef sig ⟨S1, .i32⟩ := .of main_v2
abbrev r_c_1 : TRef sig ⟨S_, .i32⟩ := .of main_c_1
abbrev r_v3 : TRef sig ⟨S_, .i32⟩ := .of main_v3
abbrev r_v4 : TRef sig ⟨S_, .i32⟩ := .of main_v4
abbrev r_v5 : TRef sig ⟨S1, .i32⟩ := .of main_v5
abbrev r_v6 : TRef sig ⟨S2, .i32⟩ := .of main_v6
abbrev r_cst : TRef sig ⟨S_, .f32⟩ := .of main_cst
abbrev r_cst_2 : TRef sig ⟨S_, .f32⟩ := .of main_cst_2
abbrev r_v7 : TRef sig ⟨S128x100000, .f32⟩ := .of main_v7
abbrev r_cst_3 : TRef sig ⟨S_, .f32⟩ := .of main_cst_3
abbrev r_v8 : TRef sig ⟨S128x100000, .f32⟩ := .of main_v8
abbrev r_v9 : TRef sig ⟨S128x100000, .f32⟩ := .of main_v9
abbrev r_v10 : TRef sig ⟨S128x100000, .f32⟩ := .of main_v10
abbrev r_cst_4 : TRef sig ⟨S_, .f32⟩ := .of main_cst_4
abbrev r_v11 : TRef sig ⟨S128x100000, .f32⟩ := .of main_v11
abbrev r_v12 : TRef sig ⟨S128x100000, .f32⟩ := .of main_v12
abbrev r_v13 : TRef sig ⟨S128x100000, .f32⟩ := .of main_v13
abbrev r_v14 : TRef sig ⟨S128x100000, .f32⟩ := .of main_v14
abbrev r_v15 : TRef sig ⟨S128x100000, .f32⟩ := .of main_v15
abbrev r_cst_5 : TRef sig ⟨S_, .f32⟩ := .of main_cst_5
abbrev r_v16 : TRef sig ⟨S128x100000, .f32⟩ := .of main_v16
abbrev r_v17 : TRef sig ⟨S128x100000, .f32⟩ := .of main_v17
abbrev r_cst_6 : TRef sig ⟨S_, .f32⟩ := .of main_cst_6
abbrev r_v18 : TRef sig ⟨S128, .f32⟩ := .of main_v18
abbrev r_cst_7 : TRef sig ⟨S_, .f32⟩ := .of main_cst_7
abbrev r_v19 : TRef sig ⟨S128, .f32⟩ := .of main_v19
abbrev r_v20 : TRef sig ⟨S128, .f32⟩ := .of main_v20
abbrev r_v21 : TRef sig ⟨S128x1, .f32⟩ := .of main_v21
abbrev r_v22 : TRef sig ⟨S128x100000, .f32⟩ := .of main_v22
abbrev r_v23 : TRef sig ⟨S128x100000, .f32⟩ := .of main_v23
abbrev r_v24 : TRef sig ⟨S128x100000, .f32⟩ := .of main_v24
abbrev r_cst_8 : TRef sig ⟨S_, .f32⟩ := .of main_cst_8
abbrev r_v25 : TRef sig ⟨S128, .f32⟩ := .of main_v25
abbrev r_v26 : TRef sig ⟨S128x1, .f32⟩ := .of main_v26
abbrev r_v27 : TRef sig ⟨S128x100000, .f32⟩ := .of main_v27
abbrev r_v28 : TRef sig ⟨S128x100000, .f32⟩ := .of main_v28
abbrev r_v29 : TRef sig ⟨S128, .i32⟩ := .of main_v29
abbrev r_cst_9 : TRef sig ⟨S_, .f32⟩ := .of main_cst_9
abbrev r_v30 : TRef sig ⟨S128x100000, .f32⟩ := .of main_v30
abbrev r_v31 : TRef sig ⟨S128, .i32⟩ := .of main_v31
abbrev r_c_10 : TRef sig ⟨S_, .i32⟩ := .of main_c_10
abbrev r_v32 : TRef sig ⟨S128, .i32⟩ := .of main_v32
abbrev r_v33 : TRef sig ⟨S128, .i1⟩ := .of main_v33
abbrev r_c_11 : TRef sig ⟨S_, .i32⟩ := .of main_c_11
abbrev r_v34 : TRef sig ⟨S128, .i32⟩ := .of main_v34
abbrev r_v35 : TRef sig ⟨S128, .i32⟩ := .of main_v35
abbrev r_v36 : TRef sig ⟨S128, .i32⟩ := .of main_v36
abbrev r_c_12 : TRef sig ⟨S_, .i32⟩ := .of main_c_12
abbrev r_v37 : TRef sig ⟨S128, .i32⟩ := .of main_v37
abbrev r_v38 : TRef sig ⟨S128, .i1⟩ := .of main_v38
abbrev r_c_13 : TRef sig ⟨S_, .i32⟩ := .of main_c_13
abbrev r_v39 : TRef sig ⟨S128, .i32⟩ := .of main_v39
abbrev r_v40 : TRef sig ⟨S128, .i32⟩ := .of main_v40
abbrev r_v41 : TRef sig ⟨S128, .i32⟩ := .of main_v41
abbrev r_v42 : TRef sig ⟨S128x1, .i32⟩ := .of main_v42
abbrev r_v43 : TRef sig ⟨S128x1, .i32⟩ := .of main_v43
abbrev r_v44 : TRef sig ⟨S128x2, .i32⟩ := .of main_v44
abbrev r_cst_14 : TRef sig ⟨S_, .f32⟩ := .of main_cst_14
abbrev r_v45 : TRef sig ⟨S128, .f32⟩ := .of main_v45
abbrev r_v46 : TRef sig ⟨S128x100000, .f32⟩ := .of main_v46
abbrev r_v47 : TRef sig ⟨S128x100000, .f32⟩ := .of main_v47
abbrev r_v48 : TRef sig ⟨S128x100000, .f32⟩ := .of main_v48

/-! ## The random bits -/

abbrev bc (x : TRef sig ⟨S_, .i32⟩) (y : TRef sig ⟨S128x100000, .i32⟩) : HloOp τ sig (Elt F) :=
  TRef.unary x y (broadcastInDim S128x100000 ![] bcast_S_S128x100000)

/-- One round: `s` takes `x0 + x1`, and `y` takes `s` xor `x1` rotated left by `n` (right by `n'`, which is `32 - n`). -/
abbrev rnd (x0 x1 s : TRef sig ⟨S128x100000, .i32⟩) (c : TRef sig ⟨S_, .i32⟩) (n : BitVec 32) (cb l : TRef sig ⟨S128x100000, .i32⟩)
    (c' : TRef sig ⟨S_, .i32⟩) (n' : BitVec 32) (cb' r o y : TRef sig ⟨S128x100000, .i32⟩) : List (HloOp τ sig (Elt F)) :=
  [ TRef.binary x0 x1 s addi, TRef.nullary c (constantI S_ 32 n), bc c cb, TRef.binary x1 cb l Host.shli,
    TRef.nullary c' (constantI S_ 32 n'), bc c' cb', TRef.binary x1 cb' r Host.shrui, TRef.binary l r o ori, TRef.binary s o y xori ]

/-- One key addition: `s0` takes `x0` plus the key word `ka`; `y` takes `x1` plus the key word `kb` plus the count `n`. -/
abbrev inj (ka kb : TRef sig ⟨S_, .i32⟩) (x0 x1 b0 s0 b1 s1 : TRef sig ⟨S128x100000, .i32⟩) (c : TRef sig ⟨S_, .i32⟩) (n : BitVec 32)
    (cb y : TRef sig ⟨S128x100000, .i32⟩) : List (HloOp τ sig (Elt F)) :=
  [ bc ka b0, TRef.binary x0 b0 s0 addi, bc kb b1, TRef.binary x1 b1 s1 addi, TRef.nullary c (constantI S_ 32 n), bc c cb,
    TRef.binary s1 cb y addi ]

/-- The key words and the counters. -/
abbrev ops0 : List (HloOp τ sig (Elt F)) :=
  [ TRef.nullary r_c (constantI S_ 32 1#32),
    TRef.nullary r_c_0 (constantI S_ 32 32#32),
    TRef.binary r_c r_c_0 r_v0 (Host.shrui),
    TRef.unary r_v0 r_v1 (id),
    TRef.unary r_v1 r_v2 (broadcastInDim S1 ![] bcast_S_S1),
    TRef.nullary r_c_1 (constantI S_ 32 4294967295#32),
    TRef.binary r_c r_c_1 r_v3 (andi),
    TRef.unary r_v3 r_v4 (id),
    TRef.unary r_v4 r_v5 (broadcastInDim S1 ![] bcast_S_S1),
    TRef.binary r_v2 r_v5 r_v6 (fun a b => concatenate S2 0 [⟨S1, a⟩, ⟨S1, b⟩] concatenates_S1_S1_S2_d0),
    TRef.nullary r_cst (constant S_ .f32 0x00000000#32),
    TRef.nullary r_cst_2 (constant S_ .f32 0x3F800000#32),
    TRef.unary r_cst u.v0 id,
    TRef.unary r_cst_2 u.v1 id,
    TRef.unary u.v0 u.v2 (broadcastInDim S1x1 ![] bcast_S_S1x1),
    TRef.unary u.v1 u.v3 (broadcastInDim S1x1 ![] bcast_S_S1x1),
    TRef.unary r_v6 u.v4 (extractStridedSlice S1 ![0] · slices_S2_S1_0),
    TRef.reshape u.v4 u.v5 (rfl : (.i32 : EltTy) = .i32) shapeCasts_S1_S_,
    TRef.unary r_v6 u.v6 (extractStridedSlice S1 ![1] · slices_S2_S1_1),
    TRef.reshape u.v6 u.v7 (rfl : (.i32 : EltTy) = .i32) shapeCasts_S1_S_,
    TRef.nullary u.v8 (iotaInDim S128x100000 64 0),
    TRef.nullary u.v9 (iotaInDim S128x100000 64 1),
    TRef.nullary u.c (constantI S_ 64 100000#64),
    TRef.unary u.c u.v10 (broadcastInDim S128x100000 ![] bcast_S_S128x100000),
    TRef.binary u.v10 u.v8 u.v11 muli,
    TRef.nullary u.c_0 (constantI S_ 64 1#64),
    TRef.unary u.c_0 u.v12 (broadcastInDim S128x100000 ![] bcast_S_S128x100000),
    TRef.binary u.v12 u.v9 u.v13 muli,
    TRef.binary u.v11 u.v13 u.v14 addi,
    TRef.nullary u.c_1 (constantI S_ 64 32#64),
    TRef.unary u.c_1 u.v15 (broadcastInDim S128x100000 ![] bcast_S_S128x100000),
    TRef.binary u.v14 u.v15 u.v16 Host.shrui,
    TRef.unary u.v14 u.v17 (trunci 32 · natLt_32_64),
    TRef.unary u.v16 u.v18 (trunci 32 · natLt_32_64) ]

/-- The third key word and the first key addition. -/
abbrev ops1 : List (HloOp τ sig (Elt F)) :=
  [ TRef.binary u.v5 u.v7 k.v0 xori,
    TRef.nullary k.c (constantI S_ 32 466688986#32),
    TRef.binary k.v0 k.c k.v1 xori,
    bc u.v5 k.v2,
    TRef.binary u.v18 k.v2 k.v3 addi,
    bc u.v7 k.v4,
    TRef.binary u.v17 k.v4 k.v5 addi ]

abbrev rnd00 : List (HloOp τ sig (Elt F)) := rnd k.v3 k.v5 k.v6 k.c_0 13#32 k.v7 k.v8 k.c_1 19#32 k.v9 k.v10 k.v11 k.v12
abbrev rnd01 : List (HloOp τ sig (Elt F)) := rnd k.v6 k.v12 k.v13 k.c_2 15#32 k.v14 k.v15 k.c_3 17#32 k.v16 k.v17 k.v18 k.v19
abbrev rnd02 : List (HloOp τ sig (Elt F)) := rnd k.v13 k.v19 k.v20 k.c_4 26#32 k.v21 k.v22 k.c_5 6#32 k.v23 k.v24 k.v25 k.v26
abbrev rnd03 : List (HloOp τ sig (Elt F)) := rnd k.v20 k.v26 k.v27 k.c_6 6#32 k.v28 k.v29 k.c_7 26#32 k.v30 k.v31 k.v32 k.v33
abbrev inj0 : List (HloOp τ sig (Elt F)) := inj u.v7 k.v1 k.v27 k.v33 k.v34 k.v35 k.v36 k.v37 k.c_8 1#32 k.v38 k.v39
abbrev rnd10 : List (HloOp τ sig (Elt F)) := rnd k.v35 k.v39 k.v40 k.c_9 17#32 k.v41 k.v42 k.c_10 15#32 k.v43 k.v44 k.v45 k.v46
abbrev rnd11 : List (HloOp τ sig (Elt F)) := rnd k.v40 k.v46 k.v47 k.c_11 29#32 k.v48 k.v49 k.c_12 3#32 k.v50 k.v51 k.v52 k.v53
abbrev rnd12 : List (HloOp τ sig (Elt F)) := rnd k.v47 k.v53 k.v54 k.c_13 16#32 k.v55 k.v56 k.c_14 16#32 k.v57 k.v58 k.v59 k.v60
abbrev rnd13 : List (HloOp τ sig (Elt F)) := rnd k.v54 k.v60 k.v61 k.c_15 24#32 k.v62 k.v63 k.c_16 8#32 k.v64 k.v65 k.v66 k.v67
abbrev inj1 : List (HloOp τ sig (Elt F)) := inj k.v1 u.v5 k.v61 k.v67 k.v68 k.v69 k.v70 k.v71 k.c_17 2#32 k.v72 k.v73
abbrev rnd20 : List (HloOp τ sig (Elt F)) := rnd k.v69 k.v73 k.v74 k.c_18 13#32 k.v75 k.v76 k.c_19 19#32 k.v77 k.v78 k.v79 k.v80
abbrev rnd21 : List (HloOp τ sig (Elt F)) := rnd k.v74 k.v80 k.v81 k.c_20 15#32 k.v82 k.v83 k.c_21 17#32 k.v84 k.v85 k.v86 k.v87
abbrev rnd22 : List (HloOp τ sig (Elt F)) := rnd k.v81 k.v87 k.v88 k.c_22 26#32 k.v89 k.v90 k.c_23 6#32 k.v91 k.v92 k.v93 k.v94
abbrev rnd23 : List (HloOp τ sig (Elt F)) := rnd k.v88 k.v94 k.v95 k.c_24 6#32 k.v96 k.v97 k.c_25 26#32 k.v98 k.v99 k.v100 k.v101
abbrev inj2 : List (HloOp τ sig (Elt F)) := inj u.v5 u.v7 k.v95 k.v101 k.v102 k.v103 k.v104 k.v105 k.c_26 3#32 k.v106 k.v107
abbrev rnd30 : List (HloOp τ sig (Elt F)) := rnd k.v103 k.v107 k.v108 k.c_27 17#32 k.v109 k.v110 k.c_28 15#32 k.v111 k.v112 k.v113 k.v114
abbrev rnd31 : List (HloOp τ sig (Elt F)) := rnd k.v108 k.v114 k.v115 k.c_29 29#32 k.v116 k.v117 k.c_30 3#32 k.v118 k.v119 k.v120 k.v121
abbrev rnd32 : List (HloOp τ sig (Elt F)) := rnd k.v115 k.v121 k.v122 k.c_31 16#32 k.v123 k.v124 k.c_32 16#32 k.v125 k.v126 k.v127 k.v128
abbrev rnd33 : List (HloOp τ sig (Elt F)) := rnd k.v122 k.v128 k.v129 k.c_33 24#32 k.v130 k.v131 k.c_34 8#32 k.v132 k.v133 k.v134 k.v135
abbrev inj3 : List (HloOp τ sig (Elt F)) := inj u.v7 k.v1 k.v129 k.v135 k.v136 k.v137 k.v138 k.v139 k.c_35 4#32 k.v140 k.v141
abbrev rnd40 : List (HloOp τ sig (Elt F)) := rnd k.v137 k.v141 k.v142 k.c_36 13#32 k.v143 k.v144 k.c_37 19#32 k.v145 k.v146 k.v147 k.v148
abbrev rnd41 : List (HloOp τ sig (Elt F)) := rnd k.v142 k.v148 k.v149 k.c_38 15#32 k.v150 k.v151 k.c_39 17#32 k.v152 k.v153 k.v154 k.v155
abbrev rnd42 : List (HloOp τ sig (Elt F)) := rnd k.v149 k.v155 k.v156 k.c_40 26#32 k.v157 k.v158 k.c_41 6#32 k.v159 k.v160 k.v161 k.v162
abbrev rnd43 : List (HloOp τ sig (Elt F)) := rnd k.v156 k.v162 k.v163 k.c_42 6#32 k.v164 k.v165 k.c_43 26#32 k.v166 k.v167 k.v168 k.v169
abbrev inj4 : List (HloOp τ sig (Elt F)) := inj k.v1 u.v5 k.v163 k.v169 k.v170 k.v171 k.v172 k.v173 k.c_44 5#32 k.v174 k.v175

/-- The uniform value from the two words, the noise, and the softmax over the last axis. -/
abbrev ops2 : List (HloOp τ sig (Elt F)) :=
  [ TRef.binary k.v171 k.v175 u.v20 xori,
    TRef.nullary u.c_2 (constantI S_ 32 9#32),
    TRef.unary u.c_2 u.v21 (broadcastInDim S128x100000 ![] bcast_S_S128x100000),
    TRef.binary u.v20 u.v21 u.v22 Host.shrui,
    TRef.nullary u.c_3 (constantI S_ 32 1065353216#32),
    TRef.unary u.c_3 u.v23 (broadcastInDim S128x100000 ![] bcast_S_S128x100000),
    TRef.binary u.v22 u.v23 u.v24 ori,
    TRef.unary u.v24 u.v25 (bitcastToFloat .f32),
    TRef.nullary u.cst (constant S_ .f32 0x3F800000#32),
    TRef.unary u.cst u.v26 (broadcastInDim S128x100000 ![] bcast_S_S128x100000),
    TRef.binary u.v25 u.v26 u.v27 subf,
    TRef.binary u.v3 u.v2 u.v28 subf,
    TRef.unary u.v28 u.v29 (broadcastInDim S128x100000 ![0, 1] bcast_S1x1_S128x100000_0_1),
    TRef.binary u.v27 u.v29 u.v30 mulf,
    TRef.unary u.v2 u.v31 (broadcastInDim S128x100000 ![0, 1] bcast_S1x1_S128x100000_0_1),
    TRef.binary u.v30 u.v31 u.v32 addf,
    TRef.unary u.v2 u.v33 (broadcastInDim S128x100000 ![0, 1] bcast_S1x1_S128x100000_0_1),
    TRef.binary u.v33 u.v32 u.v34 maximumf,
    TRef.nullary r_cst_3 (constant S_ .f32 0x2EDBE6FF#32),
    TRef.unary r_cst_3 r_v8 (broadcastInDim S128x100000 ![] bcast_S_S128x100000),
    TRef.binary r_v7 r_v8 r_v9 (addf),
    TRef.unary r_v9 r_v10 (Host.log),
    TRef.nullary r_cst_4 (constant S_ .f32 0x2EDBE6FF#32),
    TRef.unary r_cst_4 r_v11 (broadcastInDim S128x100000 ![] bcast_S_S128x100000),
    TRef.binary r_v11 r_v10 r_v12 (subf),
    TRef.unary r_v12 r_v13 (Host.log),
    TRef.unary r_v13 r_v14 (Host.negf),
    TRef.binary r_arg0 r_v14 r_v15 (addf),
    TRef.nullary r_cst_5 (constant S_ .f32 0x3F800000#32),
    TRef.unary r_cst_5 r_v16 (broadcastInDim S128x100000 ![] bcast_S_S128x100000),
    TRef.binary r_v15 r_v16 r_v17 (Host.divf),
    TRef.nullary r_cst_6 (constant S_ .f32 0xFF800000#32),
    TRef.binary r_v17 r_cst_6 r_v18 (fun x v => Host.reduce FloatOps.maximumf x v reducesTo_S128x100000_S128_d1 h_S_),
    TRef.nullary r_cst_7 (constant S_ .f32 0xFF800000#32),
    TRef.unary r_cst_7 r_v19 (broadcastInDim S128 ![] bcast_S_S128),
    TRef.binary r_v19 r_v18 r_v20 (maximumf),
    TRef.unary r_v20 r_v21 (broadcastInDim S128x1 ![0] bcast_S128_S128x1_0),
    TRef.unary r_v21 r_v22 (broadcastInDim S128x100000 ![0, 1] bcast_S128x1_S128x100000_0_1),
    TRef.binary r_v17 r_v22 r_v23 (subf),
    TRef.unary r_v23 r_v24 (Host.exp),
    TRef.nullary r_cst_8 (constant S_ .f32 0x00000000#32),
    TRef.binary r_v24 r_cst_8 r_v25 (fun x v => Host.reduceAdd x v reducesTo_S128x100000_S128_d1 h_S_),
    TRef.unary r_v25 r_v26 (broadcastInDim S128x1 ![0] bcast_S128_S128x1_0),
    TRef.unary r_v26 r_v27 (broadcastInDim S128x100000 ![0, 1] bcast_S128x1_S128x100000_0_1),
    TRef.binary r_v24 r_v27 r_v28 (Host.divf) ]

/-- The argmax of each row. -/
abbrev ops3 : List (HloOp τ sig (Elt F)) :=
  [ TRef.nullary a.v0 (iotaInDim S128x100000 32 1),
    TRef.nullary a.cst (constant S_ .f32 0xFF800000#32),
    TRef.nullary a.c (constantI S_ 32 0#32),
    TRef.quaternary r_v28 a.v0 a.cst a.c a.v1_0 (fun x y u v j => (Host.argReduce reducer_argmax_f32_i32 x y u v reducesTo_S128x100000_S128_d1 h_S_ j).1),
    TRef.quaternary r_v28 a.v0 a.cst a.c a.v1_1 (fun x y u v j => (Host.argReduce reducer_argmax_f32_i32 x y u v reducesTo_S128x100000_S128_d1 h_S_ j).2) ]

/-- The one-hot rows by a scatter, and the straight-through sum. -/
abbrev ops4 : List (HloOp τ sig (Elt F)) :=
  [ TRef.nullary r_cst_9 (constant S_ .f32 0x00000000#32),
    TRef.unary r_cst_9 r_v30 (broadcastInDim S128x100000 ![] bcast_S_S128x100000),
    TRef.nullary r_v31 (iotaInDim S128 32 0),
    TRef.nullary r_c_10 (constantI S_ 32 0#32),
    TRef.unary r_c_10 r_v32 (broadcastInDim S128 ![] bcast_S_S128),
    TRef.binary r_v31 r_v32 r_v33 (cmpi .slt),
    TRef.nullary r_c_11 (constantI S_ 32 128#32),
    TRef.unary r_c_11 r_v34 (broadcastInDim S128 ![] bcast_S_S128),
    TRef.binary r_v31 r_v34 r_v35 (addi),
    TRef.ternary r_v33 r_v35 r_v31 r_v36 (select),
    TRef.nullary r_c_12 (constantI S_ 32 0#32),
    TRef.unary r_c_12 r_v37 (broadcastInDim S128 ![] bcast_S_S128),
    TRef.binary r_v29 r_v37 r_v38 (cmpi .slt),
    TRef.nullary r_c_13 (constantI S_ 32 100000#32),
    TRef.unary r_c_13 r_v39 (broadcastInDim S128 ![] bcast_S_S128),
    TRef.binary r_v29 r_v39 r_v40 (addi),
    TRef.ternary r_v38 r_v40 r_v29 r_v41 (select),
    TRef.unary r_v36 r_v42 (broadcastInDim S128x1 ![0] bcast_S128_S128x1_0),
    TRef.unary r_v41 r_v43 (broadcastInDim S128x1 ![0] bcast_S128_S128x1_0),
    TRef.binary r_v42 r_v43 r_v44 (fun a b => concatenate S128x2 1 [⟨S128x1, a⟩, ⟨S128x1, b⟩] concatenates_S128x1_S128x1_S128x2_d1),
    TRef.nullary r_cst_14 (constant S_ .f32 0x3F800000#32),
    TRef.unary r_cst_14 r_v45 (broadcastInDim S128 ![] bcast_S_S128),
    TRef.ternary r_v30 r_v44 r_v45 r_v46 (fun x i u => Host.scatter scatter_S128x100000_S128x2_S128_n_01_01_1 (fun _ b => b) x i u),
    TRef.binary r_v46 r_v28 r_v47 (subf),
    TRef.binary r_v47 r_v28 r_v48 (addf) ]

/-- The whole program. -/
abbrev ops : List (HloOp τ sig (Elt F)) :=
  ops0 ++ (ops1 ++ (rnd00 ++ (rnd01 ++ (rnd02 ++ (rnd03 ++ (inj0 ++ (rnd10 ++ (rnd11 ++ (rnd12 ++ (rnd13 ++ (inj1 ++ (rnd20 ++ (rnd21 ++ (rnd22 ++ (rnd23 ++ (inj2 ++ (rnd30 ++ (rnd31 ++ (rnd32 ++ (rnd33 ++ (inj3 ++ (rnd40 ++ (rnd41 ++ (rnd42 ++ (rnd43 ++ (inj4 ++ (ops2 ++ (ops3 ++ (ops4)))))))))))))))))))))))))))))

set_option maxHeartbeats 4000000 in
theorem main_eq (d : Dev nD) : main (F := F) d = seq ops := by
  chain_rfl

set_option maxHeartbeats 4000000 in
theorem line : Line (τ := τ) 0 (ops (F := F)) := by
  repeat (first
    | exact Line.nil _
    | refine Line.cons ?_ (step_binary _ _ _ _ (by decide) (by decide)) ?_
    | refine Line.cons ?_ (step_unary _ _ _ (by decide)) ?_
    | refine Line.cons ?_ (step_nullary _ _) ?_
    | refine Line.cons ?_ (step_reshape _ _ _ _ (by decide)) ?_
    | refine Line.cons ?_ (step_ternary _ _ _ _ _ (by decide) (by decide) (by decide)) ?_
    | refine Line.cons ?_ (step_quaternary _ _ _ _ _ _ (by decide) (by decide) (by decide) (by decide)) ?_
    | decide)

end Cert.Proof.Ref

end
-- ==== Proof.RefRun.lean ====
/-
  The run of the reference, for any float values: every buffer ends at what the list of operations leaves in it, the
  argument's buffer as it was, and no semaphore exists.
-/
module

public import proofs.«01_k».proof.Proof.RefOps

@[expose] public section

noncomputable section

namespace Cert.Proof.Ref

open Cert.ReferenceIdeal Cert.ReferenceIdeal.Facts₀
open Idealize.ShloMosaic Idealize.ShloMosaic.TcCoe Idealize.ShloMosaic.StableHlo Idealize.SL.Sem
open Cert.Proof.Host

variable {F : FTy → Type} [FloatOps F]
variable (m : (ℓ : Loc nD τ sig) → Buf (Elt F) ℓ) (ρ : Dev nD → PrngReg)

/-- The contents at the end, on device `d`. -/
def ends (d : Dev nD) : Valuation τ sig (Elt F) := after ops (launchContents m d)

theorem ends_eqns (d : Dev nD) : (ops (F := F)).Forall (Eqn (ends m d)) := line.eqns _

theorem ends_arg (d : Dev nD) : ends m d (Proc.devRef .tc main_arg0) = m ((d.tc : Thread nD τ).loc main_arg0) :=
  line.keeps _ main_arg0 (le_refl 0)

/-- The run: every buffer ends at `ends`, and every semaphore counter at zero. -/
theorem run : θ_run defs (onTc (τ := τ) (main (F := F))) ⟨m, fun _ => 0, ρ⟩ (fun r =>
    (∀ (d : Dev nD) (b : Ref sig .tc), r.2.mem ((d.tc : Thread nD τ).loc b) = ends m d (Proc.devRef .tc b))
      ∧ r.2.sem = fun _ => 0) :=
  θ_run_mono (run_hlo defs main (ops := ops) (fun d => main_eq d) (by decide) (by decide) line.sub line.det m ρ)
    fun r h => ⟨h, sem_eq_zero_of_no_sems (by decide) r.2⟩

end Cert.Proof.Ref

end
-- ==== Proof.Frames.lean ====
/-
  The runs as the claims state them: the printed kernel's run is that of its exact-arithmetic text, and every run keeps
  its argument.
-/
module

public import proofs.«01_k».proof.Defs
public import proofs.«01_k».proof.Proof.Gen.Kernel
public import proofs.«01_k».proof.Proof.Gen.Kernel.Skeleton
public import proofs.«01_k».proof.Proof.KernelRun
public import proofs.«01_k».proof.Proof.RefRun

@[expose] public section

noncomputable section

namespace Cert.Proof.Frames

open Idealize.ShloMosaic Idealize.ShloMosaic.TcCoe Idealize.SL.Sem

/-! ## One program text -/

section
variable (F : FTy → Type) [FloatOps F]

theorem body_same (i a b c d) :
    Cert.Kernel.cc0__fused_kernel (F := F) i a b c d = Cert.KernelIdeal.cc0__fused_kernel (F := F) i a b c d := by
  unfold Cert.Kernel.cc0__fused_kernel Cert.KernelIdeal.cc0__fused_kernel
  rfl

theorem calls_same : (Cert.Kernel.defs₀ (F := F)) = (Cert.KernelIdeal.defs₀ (F := F)) := by
  unfold Cert.Kernel.defs₀ Cert.KernelIdeal.defs₀
  refine congrArg Defs.onTc ?_
  funext x y
  match x, y with
  | 0, (t, s) => exact body_same F _ _ _ _ _

theorem defs_same : (Cert.Kernel.defs (F := F)) = (Cert.KernelIdeal.defs (F := F)) :=
  congrArg (Pipeline.defs (Cert.KernelIdeal.pcfgs (F := F))) (calls_same F)

theorem main_same : (Cert.Kernel.main (F := F)) = (Cert.KernelIdeal.main (F := F)) := rfl

end

/-! ## The frames -/

theorem kernel_ideal (F : FTy → Type) [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  θ_run_mono (Cert.KernelIdeal.Own.run_value m g) fun _ h => ⟨fun c => (h.1 c).2, h.2⟩

theorem kernel : Cert.quiescent_Kernel := by
  intro m g _
  have h := kernel_ideal Bits m g
  rw [← defs_same, ← main_same] at h
  exact h

theorem reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD, r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)) ∧ r.2.sem = fun _ => 0) :=
  θ_run_mono (Ref.run m g) fun _ h => ⟨fun c => (h.1 c _).trans (Ref.ends_arg m c), h.2⟩

end Cert.Proof.Frames

end
-- ==== Proof.First.lean ====
/-
  The first position of a greatest value among finitely many.
-/
module

public import Mathlib.Data.EReal.Basic
public import Mathlib.Data.Finset.Fold

@[expose] public section

namespace Cert.Proof.First

/-- `c` is the first of the positions below `n` at which `f` is greatest. -/
def First (f : ℕ → EReal) (n c : ℕ) : Prop := c < n ∧ ∀ k < n, f k < f c ∨ (f k = f c ∧ c ≤ k)

variable {f g : ℕ → EReal} {n c d : ℕ}

theorem First.le (h : First f n c) (k : ℕ) (hk : k < n) : f k ≤ f c := by
  rcases h.2 k hk with h | h
  · exact h.le
  · exact h.1.le

theorem First.unique (h : First f n c) (h' : First f n d) : c = d := by
  have hcd : f c = f d := le_antisymm (h'.le c h.1) (h.le d h'.1)
  rcases h.2 d h'.1 with e | e
  · exact absurd hcd e.ne'
  · rcases h'.2 c h.1 with e' | e'
    · exact absurd hcd e'.ne
    · exact Nat.le_antisymm e.2 e'.2

/-- A function that orders the positions alike has the same first greatest position. -/
theorem First.transport (h : First f n c) (hfg : ∀ a b, a < n → b < n → (f a < f b ↔ g a < g b)) : First g n c := by
  refine ⟨h.1, fun k hk => ?_⟩
  rcases h.2 k hk with e | e
  · exact Or.inl ((hfg k c hk h.1).mp e)
  · refine Or.inr ⟨le_antisymm ?_ ?_, e.2⟩
    · exact not_lt.mp fun t => e.1.not_gt ((hfg c k h.1 hk).mpr t)
    · exact not_lt.mp fun t => e.1.not_lt ((hfg k c hk h.1).mpr t)

/-- Fewer positions, the first greatest one among them. -/
theorem First.mono {m : ℕ} (h : First f n c) (hm : m ≤ n) (hc : c < m) : First f m c :=
  ⟨hc, fun k hk => h.2 k (hk.trans_le hm)⟩

/-- One position more, at which the value is greater. -/
theorem First.up (h : First f n c) (hn : f c < f n) : First f (n + 1) n := by
  refine ⟨Nat.lt_succ_self n, fun k hk => ?_⟩
  rcases Nat.lt_succ_iff_lt_or_eq.mp hk with hk | rfl
  · exact Or.inl ((h.le k hk).trans_lt hn)
  · exact Or.inr ⟨rfl, le_rfl⟩

/-- One position more, at which the value is not greater. -/
theorem First.stay (h : First f n c) (hn : ¬ f c < f n) : First f (n + 1) c := by
  refine ⟨h.1.trans (Nat.lt_succ_self n), fun k hk => ?_⟩
  rcases Nat.lt_succ_iff_lt_or_eq.mp hk with hk | rfl
  · exact h.2 k hk
  · rcases (not_lt.mp hn).lt_or_eq with e | e
    · exact Or.inl e
    · exact Or.inr ⟨e, h.1.le⟩

/-- A fold whose step takes one of the two, the one that is ahead. -/
theorem foldl_ahead {α : Type} (R : α → α → Prop) (refl : ∀ a, R a a) (trans : ∀ a b c, R a b → R b c → R a c)
    (op : α → α → α) (one : ∀ a b, op a b = a ∨ op a b = b) (left : ∀ a b, R (op a b) a) (right : ∀ a b, R (op a b) b)
    (l : List α) (a : α) : (l.foldl op a = a ∨ l.foldl op a ∈ l) ∧ R (l.foldl op a) a ∧ ∀ b ∈ l, R (l.foldl op a) b := by
  induction l generalizing a with
  | nil => exact ⟨Or.inl rfl, refl a, fun b hb => absurd hb List.not_mem_nil⟩
  | cons x l ih =>
    obtain ⟨i1, i2, i3⟩ := ih (op a x)
    refine ⟨?_, trans _ _ _ i2 (left a x), fun b hb => ?_⟩
    · rcases i1 with e | e
      · rcases one a x with e' | e'
        · exact Or.inl (e.trans e')
        · exact Or.inr (List.mem_cons.mpr (Or.inl (e.trans e')))
      · exact Or.inr (List.mem_cons.mpr (Or.inr e))
    · rcases List.mem_cons.mp hb with rfl | hb
      · exact trans _ _ _ i2 (right a b)
      · exact i3 b hb

/-- The least of the values of a finite family, found by such a fold. -/
theorem fold_least {α : Type} (le : α → α → Prop) (refl : ∀ a, le a a) (trans : ∀ a b c, le a b → le b c → le a c)
    (op : α → α → α) [Std.Commutative op] [Std.Associative op] (one : ∀ a b, op a b = a ∨ op a b = b)
    (left : ∀ a b, le (op a b) a) (right : ∀ a b, le (op a b) b) {ι : Type} [DecidableEq ι] (s : Finset ι) (v : ι → α) (a : α) :
    (s.fold op a v = a ∨ ∃ i ∈ s, s.fold op a v = v i) ∧ ∀ i ∈ s, le (s.fold op a v) (v i) := by
  induction s using Finset.induction_on with
  | empty => exact ⟨Or.inl rfl, fun i hi => absurd hi (Finset.notMem_empty i)⟩
  | insert x s hx ih =>
    rw [Finset.fold_insert hx]
    refine ⟨?_, fun i hi => ?_⟩
    · rcases one (v x) (s.fold op a v) with e | e
      · exact Or.inr ⟨x, Finset.mem_insert_self x s, e⟩
      · rcases ih.1 with e' | ⟨i, hi, e'⟩
        · exact Or.inl (e.trans e')
        · exact Or.inr ⟨i, Finset.mem_insert_of_mem hi, e.trans e'⟩
    · rcases Finset.mem_insert.mp hi with rfl | hi
      · exact left _ _
      · exact trans _ _ _ (right _ _) (ih.2 i hi)

end Cert.Proof.First
-- ==== Proof.Noise.lean ====
/-
  The noise in exact arithmetic: at every place the uniform value is a real in [0, 1), so that the inner logarithm is of
  a positive real and is less than the small constant, the outer one is of a positive real too, and the noise is a real.
-/
module

public import proofs.«01_k».proof.Proof.Words
public import Idealize.ShloMosaic.Lib.IdealHost

@[expose] public section

noncomputable section

namespace Cert.Proof.Noise

open Idealize.ShloMosaic Cert.Proof.Words

/-- The value of a float word. -/
abbrev fl (b : BitVec 32) : EReal := Ideal.ofBits .f32 b

theorem fl_one : fl 0x3F800000#32 = ((1 : ℝ) : EReal) := Ideal.ofBits_one_f32
theorem fl_zero : fl 0x00000000#32 = ((0 : ℝ) : EReal) := by
  simp [fl, Ideal.ofBits, Ideal.ieee]
theorem fl_bot : fl 0xFF800000#32 = ⊥ := by
  simp [fl, Ideal.ofBits, Ideal.ieee]

/-- The small constant is a positive real. -/
theorem fl_eps : ∃ e : ℝ, 0 < e ∧ fl 0x2EDBE6FF#32 = (e : EReal) := by
  have he : ((0x2EDBE6FF#32).extractLsb' 23 8).toNat = 93 := by decide
  have hf : ((0x2EDBE6FF#32).extractLsb' 0 23).toNat = 0x5BE6FF := by decide
  refine ⟨((2 ^ 23 + 0x5BE6FF : ℕ) : ℝ) * (2 : ℝ) ^ (-57 : Int), by positivity, ?_⟩
  simp only [fl, Ideal.ofBits, Ideal.ieee]
  rw [he, hf, if_neg (by decide), if_neg (by decide)]
  congr 1
  norm_num
  decide

/-- Fraction bits under the exponent of one. -/
theorem unit_toNat (w : BitVec 32) : ((w >>> 9#32) ||| 0x3F800000#32).toNat = 127 * 2 ^ 23 + w.toNat / 2 ^ 9 := by
  have hw : w.toNat / 2 ^ 9 < 2 ^ 23 := by have := w.isLt; omega
  rw [BitVec.toNat_or, show (0x3F800000#32).toNat = 127 <<< 23 by decide, Nat.or_comm]
  rw [show (w >>> 9#32).toNat = w.toNat / 2 ^ 9 by
    rw [BitVec.ushiftRight_eq', BitVec.toNat_ushiftRight, Nat.shiftRight_eq_div_pow]; rfl]
  rw [← Nat.shiftLeft_add_eq_or_of_lt hw, Nat.shiftLeft_eq]

/-- So the float is a real in [1, 2). -/
theorem fl_unit (w : BitVec 32) : ∃ x : ℝ, 1 ≤ x ∧ x < 2 ∧ fl ((w >>> 9#32) ||| 0x3F800000#32) = (x : EReal) := by
  have hw : w.toNat / 2 ^ 9 < 2 ^ 23 := by have := w.isLt; omega
  have hs : ((w >>> 9#32) ||| 0x3F800000#32).extractLsb' 31 1 = 0#1 := BitVec.eq_of_toNat_eq (by
    rw [BitVec.extractLsb'_toNat, unit_toNat, Nat.shiftRight_eq_div_pow]
    change (127 * 2 ^ 23 + w.toNat / 2 ^ 9) / 2 ^ 31 % 2 ^ 1 = 0
    omega)
  have he : (((w >>> 9#32) ||| 0x3F800000#32).extractLsb' 23 8).toNat = 127 := by
    rw [BitVec.extractLsb'_toNat, unit_toNat, Nat.shiftRight_eq_div_pow]
    omega
  have hf : (((w >>> 9#32) ||| 0x3F800000#32).extractLsb' 0 23).toNat = w.toNat / 2 ^ 9 := by
    rw [BitVec.extractLsb'_toNat, unit_toNat, Nat.shiftRight_eq_div_pow]
    omega
  refine ⟨((2 ^ 23 + w.toNat / 2 ^ 9 : ℕ) : ℝ) * (2 : ℝ) ^ (-23 : Int), ?_, ?_, ?_⟩
  · have : ((2 ^ 23 : ℕ) : ℝ) ≤ ((2 ^ 23 + w.toNat / 2 ^ 9 : ℕ) : ℝ) := Nat.cast_le.mpr (Nat.le_add_right _ _)
    rw [zpow_neg, ← div_eq_mul_inv, le_div_iff₀ (by positivity)]
    refine le_trans (le_of_eq ?_) this
    norm_num
  · have : ((2 ^ 23 + w.toNat / 2 ^ 9 : ℕ) : ℝ) < ((2 ^ 24 : ℕ) : ℝ) := Nat.cast_lt.mpr (by omega)
    rw [zpow_neg, ← div_eq_mul_inv, div_lt_iff₀ (by positivity)]
    refine lt_of_lt_of_eq this ?_
    norm_num
  · simp only [fl, Ideal.ofBits, Ideal.ieee]
    rw [he, hf, if_neg (by decide), if_neg (by decide), hs]
    congr 1
    norm_num

/-- The noise as the programs compute it. -/
def noise (n : ℕ) : EReal :=
  Ideal.log (fl 0x2EDBE6FF#32 - Ideal.log (fl (unit n) - fl 0x3F800000#32 + fl 0x2EDBE6FF#32))

/-- The uniform value is not negative. -/
theorem unit_sub (n : ℕ) : ∃ u : ℝ, 0 ≤ u ∧ u < 1 ∧ fl (unit n) - fl 0x3F800000#32 = (u : EReal) := by
  obtain ⟨x, h1, h2, hx⟩ := fl_unit (word n)
  refine ⟨x - 1, by linarith, by linarith, ?_⟩
  rw [unit, hx, fl_one, EReal.coe_sub]

theorem log_coe {r : ℝ} (h : 0 < r) : Ideal.log (r : EReal) = ((Real.log r : ℝ) : EReal) := if_neg (not_le.mpr h)

/-- The noise is a real. -/
theorem noise_real (n : ℕ) : ∃ g : ℝ, noise n = (g : EReal) := by
  obtain ⟨u, h0, h1, hu⟩ := unit_sub n
  obtain ⟨e, he, hE⟩ := fl_eps
  have hl : Real.log (u + e) < e := lt_of_le_of_lt (Real.log_le_sub_one_of_pos (by linarith)) (by linarith)
  refine ⟨Real.log (e - Real.log (u + e)), ?_⟩
  rw [noise, hu, hE, ← EReal.coe_add, log_coe (by linarith), ← EReal.coe_sub, log_coe (by linarith)]

end Cert.Proof.Noise

end
-- ==== Proof.KernelPick.lean ====
/-
  The column the kernel finds for a row of its tile, in exact arithmetic: the first column of the row's greatest
  perturbed logit.
-/
module

public import proofs.«01_k».proof.Proof.KernelRun
public import proofs.«01_k».proof.Proof.First
public import proofs.«01_k».proof.Proof.Noise
public import Idealize.ShloMosaic.PureOps.Ideal.Laws
public import Idealize.ShloMosaic.PureOps.Reduce

@[expose] public section

noncomputable section

namespace Cert.KernelIdeal.Own

open Cert.KernelIdeal Cert.KernelIdeal.Gen
open Idealize.ShloMosaic Idealize.SL.Sem
open Cert.Proof.First

/-- The scores of lane `l`, by chunk. -/
abbrev lane (f : ℕ → EReal) (l : Fin 512) : ℕ → EReal := fun k => f (k * 512 + l.val)

theorem select_gt {α : Type} (x y : EReal) (a b : α) : Scalar.select (Ideal.cmp .ogt x y) a b = if y < x then a else b := by
  unfold Scalar.select Ideal.cmp
  by_cases h : y < x <;> simp [h]

theorem select_same {α : Type} (x y : EReal) (a b : α) : Scalar.select (Ideal.cmp .oeq x y) a b = if x = y then a else b := by
  unfold Scalar.select Ideal.cmp
  by_cases h : x = y <;> simp [h]

/-- One step of a lane's search. -/
theorem lane_step (g : ℕ → EReal) (K b : ℕ) (h : First g K b) (m z : EReal) (hm : m = g b) (hz : z = g K) (w : BitVec 32)
    (hw : w = BitVec.ofNat 32 b) (v : BitVec 32) (hv : v = BitVec.ofNat 32 K) :
    ∃ b', First g (K + 1) b' ∧ max z m = g b' ∧ Scalar.select (Ideal.cmp .ogt z m) v w = BitVec.ofNat 32 b' := by
  subst hm hz hw hv
  rw [select_gt]
  by_cases t : g b < g K
  · exact ⟨K, h.up t, max_eq_left t.le, if_pos t⟩
  · exact ⟨b, h.stay t, max_eq_right (not_lt.mp t), if_neg t⟩

variable (i : grid0.Coords) (X : S16x100352.Idx → Elt Ideal .f32) (q : Fin 16) (f : ℕ → EReal)

/-- After `K + 1` trips every lane holds the first of its greatest scores so far. -/
theorem carry_first (hf : ∀ (k : Fin k0_t1_loop.trips) (l : Fin 512), (k0_pay41 (lnoise i k) (chunk X k) (ix2 q l) : EReal) = f (k.val * 512 + l.val))
    (hpos : ∀ n < 100000, ⊥ < f n) (l : Fin 512) (K : ℕ) (hK : K < k0_t1_loop.trips) :
    ∃ b, First (lane f l) (K + 1) b ∧ ((carry i X (K + 1)).1 (ix2 q l) : EReal) = lane f l b
      ∧ (carry i X (K + 1)).2 (ix2 q l) = BitVec.ofNat 32 b := by
  induction K with
  | zero =>
    have e : carry i X (0 + 1) = trip i X ⟨0, hK⟩ (carry i X 0) := dif_pos hK
    rw [e]
    have e0 : (k0_pay41 (lnoise i ⟨0, hK⟩) (chunk X ⟨0, hK⟩) (ix2 q l) : EReal) = lane f l 0 := hf ⟨0, hK⟩ l
    have ep : ⊥ < lane f l 0 := hpos _ (by have := l.isLt; omega)
    have em : ((k0_pay39 (F := Ideal)) (ix2 q l) : EReal) = ⊥ := Cert.Proof.Noise.fl_bot
    refine ⟨0, ⟨by omega, fun k hk => Or.inr ⟨by rw [show k = 0 by omega], by omega⟩⟩, ?_, ?_⟩
    · change max (k0_pay41 (lnoise i ⟨0, hK⟩) (chunk X ⟨0, hK⟩) (ix2 q l) : EReal) ((k0_pay39 (F := Ideal)) (ix2 q l) : EReal) = _
      rw [e0, em]; exact max_eq_left bot_le
    · change Scalar.select (Ideal.cmp .ogt (k0_pay41 (lnoise i ⟨0, hK⟩) (chunk X ⟨0, hK⟩) (ix2 q l) : EReal) ((k0_pay39 (F := Ideal)) (ix2 q l) : EReal))
        (Scf.iv 0#32 1#32 0) _ = _
      rw [e0, em, select_gt, if_pos ep]; rfl
  | succ K ih =>
    have e : carry i X (K + 1 + 1) = trip i X ⟨K + 1, hK⟩ (carry i X (K + 1)) := dif_pos hK
    obtain ⟨b, hb, hm, hw⟩ := ih (by omega)
    obtain ⟨b', hb', hm', hw'⟩ := lane_step (lane f l) (K + 1) b hb _ _ hm (hf ⟨K + 1, hK⟩ l) _ hw (Scf.iv 0#32 1#32 (K + 1)) (by
      simp [Scf.iv])
    refine ⟨b', hb', ?_, ?_⟩
    · rw [e]; exact hm'
    · rw [e]; exact hw'

/-! ## The end of the search -/

/-- The one position of row `q` among the row values. -/
def rowOf (q : Fin 16) : S16.Idx := fun a => match a with | ⟨0, _⟩ => q

theorem lift_row (q : Fin 16) (l : Fin 512) : reduces_S16x512_S16.lift (rowOf q) l = ix2 q l := by
  funext a
  match a with
  | ⟨0, _⟩ => rfl
  | ⟨1, _⟩ => rfl

theorem column_apply {α : Type} (x : S16.Idx → α) (q : Fin 16) : shapeCast S16x1 x shapeCasts_S16_S16x1 (ix2 q (0 : Fin 1)) = x (rowOf q) := by
  refine shapeCast_apply _ _ _ _ ?_
  revert q; decide +kernel

theorem finish_apply (m : FVec Ideal S16x512 .f32) (b : IVec S16x512 32) (z : FVec Ideal S16x512 .f32) (M : EReal)
    (hM : (Finset.univ : Finset (Fin 512)).fold max ⊥ (fun l => max (z (ix2 q l) : EReal) (m (ix2 q l) : EReal)) = M) :
    finish m b z (ix2 q (0 : Fin 1)) = (Finset.univ : Finset (Fin 512)).fold IKind.minsi.op 2147483647#32 (fun l =>
      if max (z (ix2 q l) : EReal) (m (ix2 q l) : EReal) = M
        then Scalar.select (Ideal.cmp .ogt (z (ix2 q l) : EReal) (m (ix2 q l) : EReal)) 195#32 (b (ix2 q l)) * 512#32 + BitVec.ofNat 32 l.val
        else 100000#32) := by
  have e1 : (multiReduction .maximumf [1] S16 (maximumf z m) 0xFF800000#32 reduces_S16x512_S16 (.inl rfl) rfl (rowOf q) : EReal) = M := by
    refine (Ideal.multiReduction_maximumf_single _ _ _ _ _ _).trans ?_
    rw [← hM]
    refine congrArg₂ (fun b f => (Finset.univ : Finset (Fin 512)).fold max b f) Cert.Proof.Noise.fl_bot (funext fun l => ?_)
    exact congrArg (fun t => max (z t : EReal) (m t : EReal)) (lift_row q l)
  unfold finish
  rw [column_apply]
  refine (multiReductionI_eq_fold _ _ _ _ _ _).trans ?_
  refine (Shape.Reduces.fold_filter_drop_single _ _ _ _ _).trans ?_
  refine congrArg (fun f => (Finset.univ : Finset (Fin 512)).fold IKind.minsi.op 2147483647#32 f) (funext fun l => ?_)
  refine (congrArg _ (lift_row q l)).trans ?_
  rw [← select_same]
  generalize hr : multiReduction (F := Ideal) .maximumf [1] S16 (maximumf z m) 0xFF800000#32 reduces_S16x512_S16 (.inl rfl) rfl = R at e1
  have e2 : broadcastTo S16x512 (shapeCast S16x1 R shapeCasts_S16_S16x1) broadcasts_S16x1_S16x512 (ix2 q l) = M := by
    refine (broadcastTo_apply _ _ _ (ix2 q (0 : Fin 1)) fun a => by
      match a with
      | ⟨0, _⟩ => rfl
      | ⟨1, _⟩ => rfl).trans ?_
    rw [column_apply]; exact e1
  rw [← e2, ← hr]
  change Scalar.select _ (Scalar.select _ _ _ * 512#32 + BitVec.ofNat 32 (0 * 512 + l.val)) _ = _
  rw [Nat.zero_mul, Nat.zero_add]
  rfl

theorem toInt_small (n : ℕ) (h : n < 2147483648) : (BitVec.ofNat 32 n).toInt = (n : ℤ) := by
  rw [BitVec.toInt_eq_toNat_cond, BitVec.toNat_ofNat, Nat.mod_eq_of_lt (by omega), if_pos (by omega)]

theorem minsi_cases (a b : BitVec 32) :
    (IKind.minsi.op a b = a ∧ a.toInt < b.toInt) ∨ (IKind.minsi.op a b = b ∧ b.toInt ≤ a.toInt) := by
  unfold IKind.op IntOp.minsi BitVec.slt
  by_cases h : a.toInt < b.toInt
  · left; simp [h]
  · right; simp [h]; omega

/-- The column the kernel finds is the first one of the greatest score, given the scores of every chunk and of the tail. -/
theorem best_first (hf : ∀ (k : Fin k0_t1_loop.trips) (l : Fin 512), (k0_pay41 (lnoise i k) (chunk X k) (ix2 q l) : EReal) = f (k.val * 512 + l.val))
    (ht : ∀ l : Fin 512, (tailScore i (View.ld (Val := Elt Ideal) X (Rect.unit (s := S16x100352) ![0, 99840] S16x512.size inb_S16x100352_S16x512_0_99840))
      (ix2 q l) : EReal) = f (195 * 512 + l.val))
    (hpos : ∀ n < 100000, ⊥ < f n) (hbot : ∀ n, 100000 ≤ n → f n = ⊥) :
    ∃ c, First f 100000 c ∧ best i X (ix2 q (0 : Fin 1)) = BitVec.ofNat 32 c := by
  have h195 : k0_t1_loop.trips = 195 := by decide +kernel
  have hl : ∀ l : Fin 512, ∃ b, First (lane f l) (195 + 1) b
      ∧ max (tailScore i (View.ld (Val := Elt Ideal) X (Rect.unit (s := S16x100352) ![0, 99840] S16x512.size inb_S16x100352_S16x512_0_99840)) (ix2 q l) : EReal)
          ((carry i X 195).1 (ix2 q l) : EReal) = lane f l b
      ∧ Scalar.select (Ideal.cmp .ogt (tailScore i (View.ld (Val := Elt Ideal) X (Rect.unit (s := S16x100352) ![0, 99840] S16x512.size inb_S16x100352_S16x512_0_99840)) (ix2 q l) : EReal)
          ((carry i X 195).1 (ix2 q l) : EReal)) 195#32 ((carry i X 195).2 (ix2 q l)) = BitVec.ofNat 32 b := by
    intro l
    obtain ⟨b, hb, hm, hw⟩ := carry_first i X q f hf hpos l 194 (by rw [h195]; decide)
    exact lane_step (lane f l) 195 b hb _ _ hm (ht l) _ hw _ rfl
  rw [best_eq, h195]
  generalize tailScore i (View.ld (Val := Elt Ideal) X (Rect.unit (s := S16x100352) ![0, 99840] S16x512.size inb_S16x100352_S16x512_0_99840)) = z at hl ⊢
  generalize (carry i X 195).1 = m at hl ⊢
  generalize (carry i X 195).2 = w at hl ⊢
  choose b hb hmax hsel using hl
  generalize hM : (Finset.univ : Finset (Fin 512)).fold max ⊥ (fun l => max (z (ix2 q l) : EReal) (m (ix2 q l) : EReal)) = M
  rw [finish_apply q m w z M hM]
  have hv : ∀ l : Fin 512, (if max (z (ix2 q l) : EReal) (m (ix2 q l) : EReal) = M
        then Scalar.select (Ideal.cmp .ogt (z (ix2 q l) : EReal) (m (ix2 q l) : EReal)) 195#32 (w (ix2 q l)) * 512#32 + BitVec.ofNat 32 l.val
        else 100000#32) = if f (b l * 512 + l.val) = M then BitVec.ofNat 32 (b l * 512 + l.val) else 100000#32 := by
    intro l
    rw [hmax, hsel, BitVec.ofNat_add, BitVec.ofNat_mul]
  rw [funext hv]
  have hM1 : (∃ l, M = f (b l * 512 + l.val)) ∧ ∀ l, f (b l * 512 + l.val) ≤ M := by
    have t := fold_least (fun x y : EReal => y ≤ x) le_refl (fun _ _ _ h h' => h'.trans h) max (fun x y => max_choice x y)
      (fun x y => le_max_left x y) (fun x y => le_max_right x y) (Finset.univ : Finset (Fin 512))
      (fun l => max (z (ix2 q l) : EReal) (m (ix2 q l) : EReal)) ⊥
    rw [hM] at t
    have t2 : ∀ l, f (b l * 512 + l.val) ≤ M := fun l => le_of_eq_of_le (hmax l).symm (t.2 l (Finset.mem_univ l))
    refine ⟨?_, t2⟩
    rcases t.1 with e | ⟨l, -, e⟩
    · exfalso
      have h0 : f 0 ≤ f (b 0 * 512 + 0) := (hb 0).le 0 (by omega)
      have := (hpos 0 (by omega)).trans_le (h0.trans (t2 0))
      rw [e] at this
      exact lt_irrefl _ this
    · exact ⟨l, e.trans (hmax l)⟩
  obtain ⟨⟨l0, hl0⟩, hle⟩ := hM1
  have hMpos : ⊥ < M := by
    have h0 : f 0 ≤ f (b 0 * 512 + 0) := (hb 0).le 0 (by omega)
    exact (hpos 0 (by omega)).trans_le (h0.trans (hle 0))
  have hin : ∀ l, f (b l * 512 + l.val) = M → b l * 512 + l.val < 100000 := by
    intro l e
    by_contra hn
    rw [hbot _ (by omega)] at e
    exact hMpos.ne e
  obtain ⟨r1, r2⟩ := fold_least (fun x y : BitVec 32 => x.toInt ≤ y.toInt) (fun _ => le_rfl) (fun _ _ _ => le_trans) IKind.minsi.op
    (fun x y => (minsi_cases x y).imp And.left And.left)
    (fun x y => by rcases minsi_cases x y with ⟨e, h⟩ | ⟨e, h⟩ <;> rw [e]; exact h)
    (fun x y => by rcases minsi_cases x y with ⟨e, h⟩ | ⟨e, h⟩ <;> rw [e]; exact h.le)
    (Finset.univ : Finset (Fin 512)) (fun l => if f (b l * 512 + l.val) = M then BitVec.ofNat 32 (b l * 512 + l.val) else 100000#32) 2147483647#32
  generalize (Finset.univ : Finset (Fin 512)).fold IKind.minsi.op 2147483647#32
    (fun l => if f (b l * 512 + l.val) = M then BitVec.ofNat 32 (b l * 512 + l.val) else 100000#32) = r at r1 r2
  have hr : ∀ l, f (b l * 512 + l.val) = M → r.toInt ≤ ((b l * 512 + l.val : ℕ) : ℤ) := by
    intro l e
    have t := r2 l (Finset.mem_univ l)
    have hi := hin l e
    rw [if_pos e, toInt_small _ (by omega)] at t
    exact t
  have hlt : r.toInt < 100000 := by
    have t := hr l0 hl0.symm
    have := hin l0 hl0.symm
    omega
  have hex : ∃ l, f (b l * 512 + l.val) = M ∧ r = BitVec.ofNat 32 (b l * 512 + l.val) := by
    rcases r1 with e | ⟨l, -, e⟩
    · rw [e] at hlt; exact absurd hlt (by decide)
    · by_cases h : f (b l * 512 + l.val) = M
      · rw [if_pos h] at e; exact ⟨l, h, e⟩
      · rw [if_neg h] at e; rw [e] at hlt; exact absurd hlt (by decide)
  obtain ⟨l, hc, hrc⟩ := hex
  refine ⟨b l * 512 + l.val, ⟨hin l hc, fun k hk => ?_⟩, hrc⟩
  have hk1 : k / 512 * 512 + k % 512 = k := by omega
  have t := (hb ⟨k % 512, Nat.mod_lt _ (by decide)⟩).2 (k / 512) (by omega)
  have tl := hle ⟨k % 512, Nat.mod_lt _ (by decide)⟩
  have tr := hr ⟨k % 512, Nat.mod_lt _ (by decide)⟩
  generalize b ⟨k % 512, Nat.mod_lt _ (by decide)⟩ = b' at t tl tr
  change f (k / 512 * 512 + k % 512) < f (b' * 512 + k % 512) ∨ (f (k / 512 * 512 + k % 512) = f (b' * 512 + k % 512) ∧ b' ≤ k / 512) at t
  change f (b' * 512 + k % 512) ≤ M at tl
  change f (b' * 512 + k % 512) = M → r.toInt ≤ ((b' * 512 + k % 512 : ℕ) : ℤ) at tr
  rw [hk1] at t
  rw [hc]
  rcases t with t | ⟨t, hb'⟩
  · exact Or.inl (t.trans_le tl)
  · rcases tl.lt_or_eq with e | e
    · exact Or.inl (t.trans_lt e)
    · refine Or.inr ⟨t.trans e, ?_⟩
      have tr' := tr e
      have hi := hin l hc
      rw [hrc, toInt_small _ (by omega)] at tr'
      omega

/-! ## The kernel's result -/

open Idealize.ShloMosaic.TcCoe

/-- The perturbed logits of a row of the array, by column number; −∞ past the last column. -/
def pert (A : S128x100000.Idx → EReal) (r : Fin 128) (n : ℕ) : EReal :=
  if h : n < 100000 then A (ix2 r (⟨n, h⟩ : Fin 100000)) - Cert.Proof.Noise.noise (r.val * 100000 + n) else ⊥

theorem gum_word {F : FTy → Type} [FloatOps F] (n : ℕ) : gum (F := F) n = FloatOps.log (FloatOps.subf (Scalar.ofBits .f32 0x2EDBE6FF#32)
    (FloatOps.log (FloatOps.addf (FloatOps.subf (FloatOps.ofBits .f32 (Cert.Proof.Words.unit n)) (Scalar.ofBits .f32 0x3F800000#32))
      (Scalar.ofBits .f32 0x2EDBE6FF#32)))) := by
  delta gum
  exact Eq.refl _

theorem noise_ideal (e o w : BitVec 32) : FloatOps.log (F := Ideal) (φ := .f32) (FloatOps.subf (Scalar.ofBits .f32 e)
    (FloatOps.log (FloatOps.addf (FloatOps.subf (FloatOps.ofBits .f32 w) (Scalar.ofBits .f32 o)) (Scalar.ofBits .f32 e)))) =
    Ideal.log (Cert.Proof.Noise.fl e - Ideal.log (Cert.Proof.Noise.fl w - Cert.Proof.Noise.fl o + Cert.Proof.Noise.fl e)) := rfl

theorem noise_word (n : ℕ) : Cert.Proof.Noise.noise n = Ideal.log (Cert.Proof.Noise.fl 0x2EDBE6FF#32
    - Ideal.log (Cert.Proof.Noise.fl (Cert.Proof.Words.unit n) - Cert.Proof.Noise.fl 0x3F800000#32 + Cert.Proof.Noise.fl 0x2EDBE6FF#32)) := rfl

/-- The kernel's noise is the reference's. -/
theorem gum_eq (n : ℕ) : gum (F := Ideal) n = Cert.Proof.Noise.noise n := by
  refine (gum_word n).trans (Eq.trans ?_ (noise_word n).symm)
  exact noise_ideal _ _ _

theorem subf_ideal (x y : EReal) : FloatOps.subf (F := Ideal) (φ := .f32) x y = x - y := rfl

theorem coords_val (t : Fin cfg0.N) : (grid0.coords t 0).val = t.val := by
  have e : ∀ t : Fin grid0.N, (grid0.coords t 0).val = t.val := by decide +kernel
  exact e t

variable (m : (ℓ : Loc nD τ sig) → Buf (Elt Ideal) ℓ) (c : Dev nD)

/-- A score of row `r` read off its tile. -/
theorem tile_score (r : Fin 128) (q : Fin 16) (hq : q.val = r.val % 16) (l : Fin 512) (k : ℕ) (hk : k * 512 + l.val < 100000) (y : S16x100352.Idx)
    (h0 : (y 0).val = q.val) (h1 : (y 1).val = k * 512 + l.val) :
    (FloatOps.subf (tile m c (pt r) y) (gum (F := Ideal) (place (grid0.coords (pt r)) k (ix2 q l))) : EReal)
      = pert (m ((c : Thread nD τ).loc main_arg0)) r (k * 512 + l.val) := by
  have hp : (pt r).val = r.val / 16 := rfl
  have e1 : tile m c (pt r) y = m ((c : Thread nD τ).loc main_arg0) (ix2 r (⟨k * 512 + l.val, hk⟩ : Fin 100000)) :=
    tile_apply m c (pt r) y _ (by rw [hp, h0, hq]; change r.val = _; omega) h1.symm
  have e2 : place (grid0.coords (pt r)) k (ix2 q l) = r.val * 100000 + (k * 512 + l.val) := by
    unfold place
    rw [coords_val, hp]
    change (r.val / 16 * 16 + q.val) * 100000 + (k * 512 + l.val) = _
    rw [hq, show r.val / 16 * 16 + r.val % 16 = r.val by omega]
  rw [e1, e2, gum_eq, pert, dif_pos hk]
  exact subf_ideal _ _

theorem pert_pos (A : S128x100000.Idx → EReal) (hA : ∀ i, ∃ a : ℝ, A i = (a : EReal)) (r : Fin 128) (n : ℕ) (hn : n < 100000) : ⊥ < pert A r n := by
  obtain ⟨a, ha⟩ := hA (ix2 r (⟨n, hn⟩ : Fin 100000))
  obtain ⟨g, hg⟩ := Cert.Proof.Noise.noise_real (r.val * 100000 + n)
  rw [pert, dif_pos hn, ha, hg, ← EReal.coe_sub]
  exact EReal.bot_lt_coe _

/-- Over finite logits the kernel's result is one at the first column of a row's greatest perturbed logit, zero elsewhere. -/
theorem res_onehot (hA : ∀ i, ∃ a : ℝ, (m ((c : Thread nD τ).loc main_arg0) i : EReal) = (a : EReal)) (r : Fin 128) :
    ∃ b, First (pert (m ((c : Thread nD τ).loc main_arg0)) r) 100000 b ∧ ∀ n : Fin 100000,
      (res m c (ix2 r n) : EReal) = if n.val = b then Cert.Proof.Noise.fl 0x3F800000#32 else Cert.Proof.Noise.fl 0x00000000#32 := by
  have h195 : k0_t1_loop.trips = 195 := by decide +kernel
  obtain ⟨b, hb, he⟩ := best_first (grid0.coords (pt r)) (tile m c (pt r)) ⟨r.val % 16, Nat.mod_lt _ (by decide)⟩
    (pert (m ((c : Thread nD τ).loc main_arg0)) r)
    (fun k l => by
      have hk : k.val < 195 := Nat.lt_of_lt_of_eq k.isLt h195
      have hl := l.isLt
      rw [score]
      refine tile_score m c r _ rfl l k.val (by omega) _ ?_ ?_
      · change k0_off1 k 0 + 1 * (r.val % 16) = r.val % 16
        have e : k0_off1 k 0 = 0 := by rw [k0_off1_eq]; rfl
        rw [e]; omega
      · change k0_off1 k 1 + 1 * l.val = _
        have e : k0_off1 k 1 = 512 * k.val := by rw [k0_off1_eq]; rfl
        rw [e]; omega)
    (fun l => by
      unfold tailScore
      by_cases h : l.val < 160
      · rw [if_pos ((inside _).mpr h)]
        refine tile_score m c r _ rfl l 195 (by omega) _ ?_ ?_
        · change 0 + 1 * (r.val % 16) = r.val % 16
          omega
        · change 99840 + 1 * l.val = _
          omega
      · rw [if_neg (fun t => h ((inside _).mp t)), pert, dif_neg (by omega)]
        exact Cert.Proof.Noise.fl_bot)
    (fun n hn => pert_pos _ hA r n hn) (fun n hn => dif_neg (by omega))
  refine ⟨b, hb, fun n => ?_⟩
  have hbn := hb.1
  have hn := n.isLt
  have e : res m c (ix2 r n) = outTile (grid0.coords (pt r)) (tile m c (pt r)) (inTile (ix2 r n)) := rfl
  rw [e, outTile_apply]
  have e2 : (BitVec.ofNat 32 (inTile (ix2 r n) 1).val = best (grid0.coords (pt r)) (tile m c (pt r)) (ix2 (inTile (ix2 r n) 0 : Fin 16) (0 : Fin 1)))
      ↔ n.val = b := by
    have e3 : best (grid0.coords (pt r)) (tile m c (pt r)) (ix2 (inTile (ix2 r n) 0 : Fin 16) (0 : Fin 1)) = BitVec.ofNat 32 b := he
    rw [e3]
    change BitVec.ofNat 32 n.val = BitVec.ofNat 32 b ↔ _
    constructor
    · intro t
      have t' := congrArg BitVec.toNat t
      rw [BitVec.toNat_ofNat, BitVec.toNat_ofNat, Nat.mod_eq_of_lt (by omega), Nat.mod_eq_of_lt (by omega)] at t'
      exact t'
    · intro t; rw [t]
  exact if_congr e2 rfl rfl

end Cert.KernelIdeal.Own

end
-- ==== Proof.RefBits.lean ====
/-
  The random words of the reference: at every place of the array, the two words its twenty rounds end with are the plain
  rounds' of that place.
-/
module

public import proofs.«01_k».proof.Proof.RefRun
public import proofs.«01_k».proof.Proof.Words
public import Idealize.ShloMosaic.Lib.Pipeline.Value

@[expose] public section

noncomputable section

namespace Cert.Proof.Ref

open Cert.ReferenceIdeal Cert.ReferenceIdeal.Facts₀
open Idealize.ShloMosaic Idealize.ShloMosaic.TcCoe Idealize.ShloMosaic.StableHlo Idealize.SL.Sem
open Cert.Proof.Host

variable {F : FTy → Type} [FloatOps F] {W : Valuation τ sig (Elt F)}

/-- The place of a scalar. -/
def pt0 : S_.Idx := fun a => a.elim0

/-- A place of a pair. -/
def pt1 (j : Fin 2) : S2.Idx := fun a => match a with | ⟨0, _⟩ => j

/-- The two words at a place. -/
def two (W : Valuation τ sig (Elt F)) (a b : TRef sig ⟨S128x100000, .i32⟩) (i : S128x100000.Idx) : BitVec 32 × BitVec 32 :=
  (val W a i, val W b i)

theorem bc_val {x : TRef sig ⟨S_, .i32⟩} {y : TRef sig ⟨S128x100000, .i32⟩} (h : Eqn W (bc x y)) (hn : x.ref ≠ y.ref)
    (i : S128x100000.Idx) : val W y i = val W x pt0 := by
  rw [eqn_unary h hn]
  exact congrArg (val W x) (funext fun a => a.elim0)

theorem shl_lit (x n : BitVec 32) (hn : n.toNat < 32) : IntOp.shli .host x n = x <<< n := if_pos hn
theorem shr_lit (x n : BitVec 32) (hn : n.toNat < 32) : IntOp.shrui .host x n = x >>> n := if_pos hn

/-- The two words after a round. -/
theorem rnd_val {x0 x1 s cb l cb' r o y : TRef sig ⟨S128x100000, .i32⟩} {c c' : TRef sig ⟨S_, .i32⟩} {n n' : BitVec 32}
    (h : (rnd x0 x1 s c n cb l c' n' cb' r o y).Forall (Eqn W)) (hn : n.toNat < 32) (hn' : n'.toNat < 32)
    (hd : x0.ref ≠ s.ref ∧ x1.ref ≠ s.ref ∧ c.ref ≠ cb.ref ∧ x1.ref ≠ l.ref ∧ cb.ref ≠ l.ref ∧ c'.ref ≠ cb'.ref ∧ x1.ref ≠ r.ref
      ∧ cb'.ref ≠ r.ref ∧ l.ref ≠ o.ref ∧ r.ref ≠ o.ref ∧ s.ref ≠ y.ref ∧ o.ref ≠ y.ref) (i : S128x100000.Idx) :
    two W s y i = Words.rnd n n' (two W x0 x1 i) := by
  obtain ⟨h1, h2, h3, h4, h5, h6, h7, h8, h9⟩ := h
  obtain ⟨d1, d2, d3, d4, d5, d6, d7, d8, d9, d10, d11, d12⟩ := hd
  have e1 : val W s i = val W x0 i + val W x1 i := congrFun (eqn_binary h1 d1 d2) i
  have e4 : val W l i = IntOp.shli .host (val W x1 i) (val W cb i) := congrFun (eqn_binary h4 d4 d5) i
  have e3 : val W cb i = n := (bc_val h3 d3 i).trans (congrFun (eqn_nullary h2) pt0)
  have e7 : val W r i = IntOp.shrui .host (val W x1 i) (val W cb' i) := congrFun (eqn_binary h7 d7 d8) i
  have e6 : val W cb' i = n' := (bc_val h6 d6 i).trans (congrFun (eqn_nullary h5) pt0)
  have e8 : val W o i = val W l i ||| val W r i := congrFun (eqn_binary h8 d9 d10) i
  have e9 : val W y i = val W s i ^^^ val W o i := congrFun (eqn_binary h9 d11 d12) i
  unfold two Words.rnd
  rw [e9, e8, e7, e6, e4, e3, e1, shl_lit _ _ hn, shr_lit _ _ hn']
  exact congrArg (Prod.mk _) (BitVec.xor_comm _ _)

/-- The two words after a key addition. -/
theorem inj_val {ka kb c : TRef sig ⟨S_, .i32⟩} {x0 x1 b0 s0 b1 s1 cb y : TRef sig ⟨S128x100000, .i32⟩} {n : BitVec 32}
    (h : (inj ka kb x0 x1 b0 s0 b1 s1 c n cb y).Forall (Eqn W))
    (hd : ka.ref ≠ b0.ref ∧ x0.ref ≠ s0.ref ∧ b0.ref ≠ s0.ref ∧ kb.ref ≠ b1.ref ∧ x1.ref ≠ s1.ref ∧ b1.ref ≠ s1.ref ∧ c.ref ≠ cb.ref
      ∧ s1.ref ≠ y.ref ∧ cb.ref ≠ y.ref) (i : S128x100000.Idx) :
    two W s0 y i = Words.key (val W ka pt0) (val W kb pt0 + n) (two W x0 x1 i) := by
  obtain ⟨h1, h2, h3, h4, h5, h6, h7⟩ := h
  obtain ⟨d1, d2, d3, d4, d5, d6, d7, d8, d9⟩ := hd
  have e1 : val W b0 i = val W ka pt0 := bc_val h1 d1 i
  have e2 : val W s0 i = val W x0 i + val W b0 i := congrFun (eqn_binary h2 d2 d3) i
  have e3 : val W b1 i = val W kb pt0 := bc_val h3 d4 i
  have e4 : val W s1 i = val W x1 i + val W b1 i := congrFun (eqn_binary h4 d5 d6) i
  have e6 : val W cb i = n := (bc_val h6 d7 i).trans (congrFun (eqn_nullary h5) pt0)
  have e7 : val W y i = val W s1 i + val W cb i := congrFun (eqn_binary h7 d8 d9) i
  unfold two Words.key
  rw [e7, e6, e4, e3, e2, e1, BitVec.add_assoc]

/-! ## The key words and the counters -/

/-- The place of an element, counted along the rows. -/
def place (i : S128x100000.Idx) : ℕ := (i 0).val * 100000 + (i 1).val

theorem keys (h : (ops0 (F := F)).Forall (Eqn W)) : val W u.v5 pt0 = 0#32 ∧ val W u.v7 pt0 = 1#32 := by
  obtain ⟨h1, h2, h3, h4, h5, h6, h7, h8, h9, h10, -, -, -, -, -, -, h17, h18, h19, h20, -⟩ := h
  have e3 : val W r_v0 = fun _ => 0#32 := by
    rw [eqn_binary h3 (by decide) (by decide), eqn_nullary h1, eqn_nullary h2]; rfl
  have e5 : val W r_v2 = fun _ => 0#32 := by
    rw [eqn_unary h5 (by decide), eqn_unary h4 (by decide), e3]; rfl
  have e7 : val W r_v3 = fun _ => 1#32 := by
    rw [eqn_binary h7 (by decide) (by decide), eqn_nullary h1, eqn_nullary h6]
    exact funext fun _ => (by decide : 1#32 &&& 4294967295#32 = 1#32)
  have e9 : val W r_v5 = fun _ => 1#32 := by
    rw [eqn_unary h9 (by decide), eqn_unary h8 (by decide), e7]; rfl
  have e10 : val W r_v6 = fun j => if (j 0).val = 0 then 0#32 else 1#32 := by
    rw [eqn_binary h10 (by decide) (by decide), e5, e9]
    have H : ∀ j : Fin 2, concatenate S2 0 [⟨S1, fun _ => 0#32⟩, ⟨S1, fun _ => 1#32⟩] concatenates_S1_S1_S2_d0 (pt1 j)
        = if j.val = 0 then 0#32 else 1#32 := by decide +kernel
    funext j
    have hj : j = pt1 (j 0) := funext fun a => by match a with | ⟨0, _⟩ => rfl
    exact (congrArg _ hj).trans (H (j 0))
  constructor
  · rw [eqn_reshape h18 (by decide), eqn_unary h17 (by decide), e10]; rfl
  · rw [eqn_reshape h20 (by decide), eqn_unary h19 (by decide), e10]; rfl

/-- The words the rounds start from. -/
theorem starts (h : (ops0 (F := F)).Forall (Eqn W)) (h' : (ops1 (F := F)).Forall (Eqn W)) (i : S128x100000.Idx) :
    two W k.v3 k.v5 i = (0#32, BitVec.ofNat 32 (place i) + 1#32) := by
  obtain ⟨k0, k1⟩ := keys h
  obtain ⟨-, -, -, -, -, -, -, -, -, -, -, -, -, -, -, -, -, -, -, -, h21, h22, h23, h24, h25, h26, h27, h28, h29, h30, h31, h32, h33, h34⟩ := h
  obtain ⟨-, -, -, g4, g5, g6, g7⟩ := h'
  have i0 : (i 0).val < 128 := (i 0).isLt
  have i1 : (i 1).val < 100000 := (i 1).isLt
  have e25 : val W u.v11 i = 100000#64 * BitVec.ofNat 64 (i 0).val := by
    refine (congrFun (eqn_binary h25 (by decide) (by decide)) i).trans ?_
    rw [eqn_unary h24 (by decide), eqn_nullary h23, eqn_nullary h21]; rfl
  have e28 : val W u.v13 i = BitVec.ofNat 64 (i 1).val := by
    refine (congrFun (eqn_binary h28 (by decide) (by decide)) i).trans ?_
    rw [eqn_unary h27 (by decide), eqn_nullary h26, eqn_nullary h22]
    exact BitVec.one_mul _
  have e29 : val W u.v14 i = BitVec.ofNat 64 (place i) := by
    refine (congrFun (eqn_binary h29 (by decide) (by decide)) i).trans ?_
    change val W u.v11 i + val W u.v13 i = _
    rw [e25, e28, place, BitVec.ofNat_add, BitVec.ofNat_mul, BitVec.mul_comm]
  have hp : place i < 4294967296 := by unfold place; omega
  have e33 : val W u.v17 i = BitVec.ofNat 32 (place i) := by
    refine (congrFun (eqn_unary h33 (by decide)) i).trans ?_
    change BitVec.setWidth 32 (val W u.v14 i) = _
    rw [e29]
    exact BitVec.setWidth_ofNat_of_le (by decide) _
  have e32 : val W u.v16 i = 0#64 := by
    refine (congrFun (eqn_binary h32 (by decide) (by decide)) i).trans ?_
    rw [eqn_unary h31 (by decide), eqn_nullary h30]
    change IntOp.shrui .host (val W u.v14 i) 32#64 = _
    rw [e29]
    refine (if_pos (by decide)).trans (BitVec.eq_of_toNat_eq ?_)
    rw [BitVec.ushiftRight_eq', BitVec.toNat_ushiftRight, BitVec.toNat_ofNat, Nat.mod_eq_of_lt (by omega), Nat.shiftRight_eq_div_pow]
    exact Nat.div_eq_of_lt hp
  have e34 : val W u.v18 i = 0#32 := by
    refine (congrFun (eqn_unary h34 (by decide)) i).trans ?_
    change BitVec.setWidth 32 (val W u.v16 i) = _
    rw [e32]; rfl
  have f5 : val W k.v3 i = val W u.v18 i + val W k.v2 i := congrFun (eqn_binary g5 (by decide) (by decide)) i
  have f7 : val W k.v5 i = val W u.v17 i + val W k.v4 i := congrFun (eqn_binary g7 (by decide) (by decide)) i
  unfold two
  rw [f5, f7, bc_val g4 (by decide), bc_val g6 (by decide), e33, e34, k0, k1]
  rfl

/-- The third key word. -/
theorem third (h : (ops0 (F := F)).Forall (Eqn W)) (h' : (ops1 (F := F)).Forall (Eqn W)) : val W k.v1 pt0 = Words.k2 := by
  obtain ⟨k0, k1⟩ := keys h
  obtain ⟨g1, g2, g3, -⟩ := h'
  refine (congrFun (eqn_binary g3 (by decide) (by decide)) pt0).trans ?_
  rw [eqn_nullary g2, eqn_binary g1 (by decide) (by decide)]
  change (val W u.v5 pt0 ^^^ val W u.v7 pt0) ^^^ 466688986#32 = _
  rw [k0, k1]
  exact (by decide : (0#32 ^^^ 1#32) ^^^ 466688986#32 = 466688987#32)

/-- The two words of every place. -/
theorem words (h : (ops (F := F)).Forall (Eqn W)) (i : S128x100000.Idx) :
    two W k.v171 k.v175 i = Words.five (0#32, BitVec.ofNat 32 (place i) + 1#32) := by
  obtain ⟨h0, h⟩ := (List.forall_append).mp h
  obtain ⟨h1, h⟩ := (List.forall_append).mp h
  obtain ⟨h00, h⟩ := (List.forall_append).mp h
  obtain ⟨h01, h⟩ := (List.forall_append).mp h
  obtain ⟨h02, h⟩ := (List.forall_append).mp h
  obtain ⟨h03, h⟩ := (List.forall_append).mp h
  obtain ⟨j0, h⟩ := (List.forall_append).mp h
  obtain ⟨h10, h⟩ := (List.forall_append).mp h
  obtain ⟨h11, h⟩ := (List.forall_append).mp h
  obtain ⟨h12, h⟩ := (List.forall_append).mp h
  obtain ⟨h13, h⟩ := (List.forall_append).mp h
  obtain ⟨j1, h⟩ := (List.forall_append).mp h
  obtain ⟨h20, h⟩ := (List.forall_append).mp h
  obtain ⟨h21, h⟩ := (List.forall_append).mp h
  obtain ⟨h22, h⟩ := (List.forall_append).mp h
  obtain ⟨h23, h⟩ := (List.forall_append).mp h
  obtain ⟨j2, h⟩ := (List.forall_append).mp h
  obtain ⟨h30, h⟩ := (List.forall_append).mp h
  obtain ⟨h31, h⟩ := (List.forall_append).mp h
  obtain ⟨h32, h⟩ := (List.forall_append).mp h
  obtain ⟨h33, h⟩ := (List.forall_append).mp h
  obtain ⟨j3, h⟩ := (List.forall_append).mp h
  obtain ⟨h40, h⟩ := (List.forall_append).mp h
  obtain ⟨h41, h⟩ := (List.forall_append).mp h
  obtain ⟨h42, h⟩ := (List.forall_append).mp h
  obtain ⟨h43, h⟩ := (List.forall_append).mp h
  obtain ⟨j4, h⟩ := (List.forall_append).mp h
  obtain ⟨k0, k1⟩ := keys h0
  rw [inj_val j4 (by decide),
    rnd_val h43 (by decide) (by decide) (by decide),
    rnd_val h42 (by decide) (by decide) (by decide),
    rnd_val h41 (by decide) (by decide) (by decide),
    rnd_val h40 (by decide) (by decide) (by decide),
    inj_val j3 (by decide),
    rnd_val h33 (by decide) (by decide) (by decide),
    rnd_val h32 (by decide) (by decide) (by decide),
    rnd_val h31 (by decide) (by decide) (by decide),
    rnd_val h30 (by decide) (by decide) (by decide),
    inj_val j2 (by decide),
    rnd_val h23 (by decide) (by decide) (by decide),
    rnd_val h22 (by decide) (by decide) (by decide),
    rnd_val h21 (by decide) (by decide) (by decide),
    rnd_val h20 (by decide) (by decide) (by decide),
    inj_val j1 (by decide),
    rnd_val h13 (by decide) (by decide) (by decide),
    rnd_val h12 (by decide) (by decide) (by decide),
    rnd_val h11 (by decide) (by decide) (by decide),
    rnd_val h10 (by decide) (by decide) (by decide),
    inj_val j0 (by decide),
    rnd_val h03 (by decide) (by decide) (by decide),
    rnd_val h02 (by decide) (by decide) (by decide),
    rnd_val h01 (by decide) (by decide) (by decide),
    rnd_val h00 (by decide) (by decide) (by decide),
    starts h0 h1, third h0 h1, k0, k1]
  rfl

/-- The operations after the random words. -/
theorem rest (h : (ops (F := F)).Forall (Eqn W)) :
    (ops2 (F := F)).Forall (Eqn W) ∧ (ops3 (F := F)).Forall (Eqn W) ∧ (ops4 (F := F)).Forall (Eqn W) := by
  iterate 27 replace h := ((List.forall_append).mp h).2
  obtain ⟨h2, h⟩ := (List.forall_append).mp h
  exact ⟨h2, (List.forall_append).mp h⟩

end Cert.Proof.Ref

end
-- ==== Proof.RefValue.lean ====
/-
  The reference's values up to its softmax, in exact arithmetic: the perturbed logit is the logit less the noise, and
  over finite logits the softmax of a row is a real at every column and orders the columns as the perturbed logits do.
-/
module

public import proofs.«01_k».proof.Proof.RefBits
public import proofs.«01_k».proof.Proof.Noise
public import Idealize.ShloMosaic.PureOps.Reduce
public import Idealize.ShloMosaic.Lib.Pipeline.ValueKit

@[expose] public section

noncomputable section

namespace Cert.Proof.Ref

open Cert.ReferenceIdeal Cert.ReferenceIdeal.Facts₀
open Idealize.ShloMosaic Idealize.ShloMosaic.TcCoe Idealize.ShloMosaic.StableHlo Idealize.SL.Sem
open Cert.Proof.Host Cert.Proof.Noise

variable {W : Valuation τ sig (Elt Ideal)}

/-! ## Arithmetic of the extended reals -/

theorem div_one (x : EReal) : Ideal.div x (fl 0x3F800000#32) = x := by
  rw [fl_one]
  unfold Ideal.div
  rw [if_neg (by norm_num), ← EReal.coe_inv, inv_one, EReal.coe_one, mul_one]

theorem coe_sum {ι : Type} [DecidableEq ι] (s : Finset ι) (f : ι → ℝ) : ∑ i ∈ s, (f i : EReal) = ((∑ i ∈ s, f i : ℝ) : EReal) := by
  induction s using Finset.induction_on with
  | empty => simp
  | insert a s ha ih => rw [Finset.sum_insert ha, Finset.sum_insert ha, ih, EReal.coe_add]

/-- The greatest of finitely many reals, at least one, is a real. -/
theorem max_real {n : ℕ} (f : Fin n → ℝ) (k : Fin n) :
    ∃ M : ℝ, (Finset.univ : Finset (Fin n)).fold max (⊥ : EReal) (fun i => (f i : EReal)) = (M : EReal) := by
  generalize hx : (Finset.univ : Finset (Fin n)).fold max (⊥ : EReal) (fun i => (f i : EReal)) = x
  have hb : ⊥ < x := by
    rw [← hx, Finset.lt_fold_max]
    exact Or.inr ⟨k, Finset.mem_univ k, EReal.bot_lt_coe _⟩
  have ht : x < ⊤ := by
    rw [← hx, Finset.fold_max_lt]
    exact ⟨bot_lt_top, fun i _ => EReal.coe_lt_top _⟩
  exact ⟨x.toReal, (EReal.coe_toReal ht.ne hb.ne').symm⟩

/-! ## The perturbed logits -/

/-- A scalar broadcast over the array. -/
theorem fill_val {T : EltTy} {x : TRef sig ⟨S_, T⟩} {y : TRef sig ⟨S128x100000, T⟩}
    (h : Eqn W (TRef.unary x y (broadcastInDim S128x100000 ![] bcast_S_S128x100000))) (hn : x.ref ≠ y.ref)
    (i : S128x100000.Idx) : val W y i = val W x pt0 := by
  rw [eqn_unary h hn]
  exact congrArg (val W x) (funext fun a => a.elim0)

/-- A place of a one-element matrix. -/
def pt11 : S1x1.Idx := fun a => match a with | ⟨0, _⟩ => (0 : Fin 1) | ⟨1, _⟩ => (0 : Fin 1)

theorem fill11_val {T : EltTy} {x : TRef sig ⟨S1x1, T⟩} {y : TRef sig ⟨S128x100000, T⟩}
    (h : Eqn W (TRef.unary x y (broadcastInDim S128x100000 ![0, 1] bcast_S1x1_S128x100000_0_1))) (hn : x.ref ≠ y.ref)
    (i : S128x100000.Idx) : val W y i = val W x pt11 := by
  rw [eqn_unary h hn]
  exact broadcastInDim_apply _ _ _ _ _ fun a => by match a with | ⟨0, _⟩ => rfl | ⟨1, _⟩ => rfl

/-- The bounds zero and one of the uniform values. -/
theorem bounds (h : (ops0 (F := Ideal)).Forall (Eqn W)) : val W u.v2 pt11 = ((0 : ℝ) : EReal) ∧ val W u.v3 pt11 = ((1 : ℝ) : EReal) := by
  obtain ⟨-, -, -, -, -, -, -, -, -, -, h11, h12, h13, h14, h15, h16, -⟩ := h
  constructor
  · rw [eqn_unary h15 (by decide), eqn_unary h13 (by decide), eqn_nullary h11]
    exact fl_zero
  · rw [eqn_unary h16 (by decide), eqn_unary h14 (by decide), eqn_nullary h12]
    exact fl_one

/-- The perturbed logit. -/
theorem perturbed (h : (ops (F := Ideal)).Forall (Eqn W)) (i : S128x100000.Idx) :
    val W r_v17 i = (val W r_arg0 i : EReal) - noise (place i) := by
  have hw := words h i
  obtain ⟨h0, -⟩ := List.forall_append.mp h
  obtain ⟨l0, l1⟩ := bounds h0
  obtain ⟨h2, -, -⟩ := rest h
  obtain ⟨h1, h2, h3, h4, h5, h6, h7, h8, h9, h10, h11, h12, h13, h14, h15, h16, h17, h18, h19, h20, h21, h22, h23, h24, h25, h26,
    h27, h28, h29, h30, h31, -⟩ := h2
  have e1 : val W u.v20 i = Words.word (place i) := by
    refine (congrFun (eqn_binary h1 (by decide) (by decide)) i).trans ?_
    exact congrArg (fun p : BitVec 32 × BitVec 32 => p.1 ^^^ p.2) hw
  have e4 : val W u.v22 i = Words.word (place i) >>> 9#32 := by
    refine (congrFun (eqn_binary h4 (by decide) (by decide)) i).trans ?_
    change IntOp.shrui .host (val W u.v20 i) (val W u.v21 i) = _
    rw [fill_val h3 (by decide), eqn_nullary h2, e1]
    exact shr_lit _ _ (by decide)
  have e7 : val W u.v24 i = Words.unit (place i) := by
    refine (congrFun (eqn_binary h7 (by decide) (by decide)) i).trans ?_
    change val W u.v22 i ||| val W u.v23 i = _
    rw [fill_val h6 (by decide), eqn_nullary h5, e4]; rfl
  have e8 : val W u.v25 i = fl (Words.unit (place i)) := by
    refine (congrFun (eqn_unary h8 (by decide)) i).trans ?_
    exact congrArg fl e7
  have e11 : val W u.v27 i = fl (Words.unit (place i)) - fl 0x3F800000#32 := by
    refine (congrFun (eqn_binary h11 (by decide) (by decide)) i).trans ?_
    change (val W u.v25 i : EReal) - (val W u.v26 i : EReal) = _
    rw [fill_val h10 (by decide), eqn_nullary h9, e8]; rfl
  obtain ⟨x, hx0, hx1, hx⟩ := unit_sub (place i)
  have e14 : val W u.v30 i = ((x : ℝ) : EReal) := by
    refine (congrFun (eqn_binary h14 (by decide) (by decide)) i).trans ?_
    change (val W u.v27 i : EReal) * (val W u.v29 i : EReal) = _
    rw [fill11_val h13 (by decide), e11, hx, eqn_binary h12 (by decide) (by decide)]
    change (x : EReal) * ((val W u.v3 pt11 : EReal) - (val W u.v2 pt11 : EReal)) = _
    rw [l0, l1, ← EReal.coe_sub, ← EReal.coe_mul, sub_zero, mul_one]
  have e16 : val W u.v32 i = ((x : ℝ) : EReal) := by
    refine (congrFun (eqn_binary h16 (by decide) (by decide)) i).trans ?_
    change (val W u.v30 i : EReal) + (val W u.v31 i : EReal) = _
    rw [fill11_val h15 (by decide), e14, l0, ← EReal.coe_add, add_zero]
  have e18 : val W u.v34 i = ((x : ℝ) : EReal) := by
    refine (congrFun (eqn_binary h18 (by decide) (by decide)) i).trans ?_
    change max (val W u.v33 i : EReal) (val W u.v32 i : EReal) = _
    rw [fill11_val h17 (by decide), e16, l0]
    exact max_eq_right (EReal.coe_le_coe_iff.mpr hx0)
  have e21 : val W r_v9 i = ((x : ℝ) : EReal) + fl 0x2EDBE6FF#32 := by
    refine (congrFun (eqn_binary h21 (by decide) (by decide)) i).trans ?_
    change (val W u.v34 i : EReal) + (val W r_v8 i : EReal) = _
    rw [fill_val h20 (by decide), eqn_nullary h19, e18]; rfl
  have e22 : val W r_v10 i = Ideal.log (((x : ℝ) : EReal) + fl 0x2EDBE6FF#32) := by
    refine (congrFun (eqn_unary h22 (by decide)) i).trans ?_
    exact congrArg Ideal.log e21
  have e25 : val W r_v12 i = fl 0x2EDBE6FF#32 - Ideal.log (((x : ℝ) : EReal) + fl 0x2EDBE6FF#32) := by
    refine (congrFun (eqn_binary h25 (by decide) (by decide)) i).trans ?_
    change (val W r_v11 i : EReal) - (val W r_v10 i : EReal) = _
    rw [fill_val h24 (by decide), eqn_nullary h23, e22]; rfl
  have e27 : val W r_v14 i = - noise (place i) := by
    refine (congrFun (eqn_unary h27 (by decide)) i).trans ?_
    change - (val W r_v13 i : EReal) = _
    rw [eqn_unary h26 (by decide)]
    change - Ideal.log (val W r_v12 i : EReal) = _
    rw [e25, noise, hx]
  have e28 : val W r_v15 i = (val W r_arg0 i : EReal) - noise (place i) := by
    refine (congrFun (eqn_binary h28 (by decide) (by decide)) i).trans ?_
    change (val W r_arg0 i : EReal) + (val W r_v14 i : EReal) = _
    rw [e27]; rfl
  refine (congrFun (eqn_binary h31 (by decide) (by decide)) i).trans ?_
  change Ideal.div (val W r_v15 i : EReal) (val W r_v16 i : EReal) = _
  rw [fill_val h30 (by decide), eqn_nullary h29, e28]
  exact div_one _

/-! ## The softmax of a row -/

/-- The one position of row `r` in the array of row values. -/
def row (r : Fin 128) : S128.Idx := fun a => match a with | ⟨0, _⟩ => r

theorem across : S128x100000.Reduces [(1 : Fin 2)] S128 := by decide

theorem across_lift (r : Fin 128) (n : Fin 100000) : across.lift (row r) n = ix2 r n := by
  funext a
  match a with
  | ⟨0, _⟩ => rfl
  | ⟨1, _⟩ => rfl

/-- A column of row values broadcast along the rows. -/
theorem along_val {T : EltTy} {x : TRef sig ⟨S128, T⟩} {y : TRef sig ⟨S128x1, T⟩} {z : TRef sig ⟨S128x100000, T⟩}
    (h : Eqn W (TRef.unary x y (broadcastInDim S128x1 ![0] bcast_S128_S128x1_0)))
    (h' : Eqn W (TRef.unary y z (broadcastInDim S128x100000 ![0, 1] bcast_S128x1_S128x100000_0_1)))
    (hn : x.ref ≠ y.ref) (hn' : y.ref ≠ z.ref) (r : Fin 128) (n : Fin 100000) : val W z (ix2 r n) = val W x (row r) := by
  rw [eqn_unary h' hn', eqn_unary h hn]
  refine (broadcastInDim_apply _ _ _ _ (ix2 r (0 : Fin 1)) fun a => by match a with | ⟨0, _⟩ => rfl | ⟨1, _⟩ => rfl).trans ?_
  exact broadcastInDim_apply _ _ _ _ _ fun a => by match a with | ⟨0, _⟩ => rfl

theorem softmax (h : (ops (F := Ideal)).Forall (Eqn W)) (z : S128x100000.Idx → ℝ)
    (hz : ∀ i, val W r_v17 i = (z i : EReal)) (r : Fin 128) :
    ∃ M S : ℝ, 0 < S ∧ ∀ n : Fin 100000, val W r_v28 (ix2 r n) = ((Real.exp (z (ix2 r n) - M) / S : ℝ) : EReal) := by
  obtain ⟨h2, -, -⟩ := rest h
  obtain ⟨-, -, -, -, -, -, -, -, -, -, -, -, -, -, -, -, -, -, -, -, -, -, -, -, -, -,
    -, -, -, -, -, h32, h33, h34, h35, h36, h37, h38, h39, h40, h41, h42, h43, h44, h45⟩ := h2
  obtain ⟨M, hM⟩ := max_real (fun n : Fin 100000 => z (ix2 r n)) 0
  have e33 : val W r_v18 (row r) = (M : EReal) := by
    refine (congrFun (eqn_binary h33 (by decide) (by decide)) (row r)).trans ?_
    refine (Host.reduce_eq_fold_single (max : EReal → EReal → EReal) _ _ _ across _ _).trans ?_
    rw [← hM, eqn_nullary h32]
    refine congrArg₂ (fun b f => (Finset.univ : Finset (Fin 100000)).fold max b f) fl_bot (funext fun n => ?_)
    change val W r_v17 (across.lift (row r) n) = _
    exact (congrArg (val W r_v17) (across_lift r n)).trans (hz _)
  have e36 : val W r_v20 (row r) = (M : EReal) := by
    refine (congrFun (eqn_binary h36 (by decide) (by decide)) (row r)).trans ?_
    change max (val W r_v19 (row r) : EReal) (val W r_v18 (row r) : EReal) = _
    rw [e33, eqn_unary h35 (by decide), eqn_nullary h34]
    exact (congrArg (fun t => max t (M : EReal)) fl_bot).trans (max_eq_right bot_le)
  have e40 : ∀ n, val W r_v24 (ix2 r n) = ((Real.exp (z (ix2 r n) - M) : ℝ) : EReal) := by
    intro n
    refine (congrFun (eqn_unary h40 (by decide)) (ix2 r n)).trans ?_
    change Ideal.exp (val W r_v23 (ix2 r n) : EReal) = _
    rw [eqn_binary h39 (by decide) (by decide)]
    change Ideal.exp ((val W r_v17 (ix2 r n) : EReal) - (val W r_v22 (ix2 r n) : EReal)) = _
    rw [along_val h37 h38 (by decide) (by decide), e36, hz, ← EReal.coe_sub]
    rfl
  have hS : 0 < ∑ n : Fin 100000, Real.exp (z (ix2 r n) - M) :=
    Finset.sum_pos (fun n _ => Real.exp_pos _) ⟨0, Finset.mem_univ _⟩
  refine ⟨M, ∑ n : Fin 100000, Real.exp (z (ix2 r n) - M), hS, fun n => ?_⟩
  generalize hs : ∑ n : Fin 100000, Real.exp (z (ix2 r n) - M) = S at hS ⊢
  have e42 : val W r_v25 (row r) = (S : EReal) := by
    refine (congrFun (eqn_binary h42 (by decide) (by decide)) (row r)).trans ?_
    refine (Ideal.hostReduceAdd_single _ across _ _ _).trans ?_
    rw [eqn_nullary h41, ← hs, ← coe_sum]
    refine (congrArg₂ (fun a b : EReal => a + b) fl_zero (Finset.sum_congr rfl fun n _ => ?_)).trans (zero_add _)
    exact (congrArg (val W r_v24) (across_lift r n)).trans (e40 n)
  refine (congrFun (eqn_binary h45 (by decide) (by decide)) (ix2 r n)).trans ?_
  change Ideal.div (val W r_v24 (ix2 r n) : EReal) (val W r_v27 (ix2 r n) : EReal) = _
  rw [along_val h43 h44 (by decide) (by decide), e42, e40]
  unfold Ideal.div
  rw [if_neg (by exact_mod_cast hS.ne'), ← EReal.coe_inv, ← EReal.coe_mul, div_eq_mul_inv]

end Cert.Proof.Ref

end
-- ==== Proof.RefPick.lean ====
/-
  The reference's result in exact arithmetic: its arg-max is the first column of a row's greatest perturbed logit, the
  scatter writes one there, and adding and subtracting the real softmax changes nothing.
-/
module

public import proofs.«01_k».proof.Proof.RefValue
public import proofs.«01_k».proof.Proof.First
public import Idealize.ShloMosaic.PureOps.Ideal.Laws
public import Idealize.ShloMosaic.Lib.Routing.OpsOrder

@[expose] public section

noncomputable section

namespace Cert.Proof.Ref

open Cert.ReferenceIdeal Cert.ReferenceIdeal.Facts₀
open Idealize.ShloMosaic Idealize.ShloMosaic.TcCoe Idealize.ShloMosaic.StableHlo Idealize.SL.Sem
open Cert.Proof.Host Cert.Proof.Noise Cert.Proof.First

variable {W : Valuation τ sig (Elt Ideal)}

/-! ## The reducer -/

/-- `p` is ahead of `q`: a greater value, or the same value at no greater a column. -/
def Ahead (p q : Ideal .f32 × BitVec 32) : Prop := (q.1 : EReal) < p.1 ∨ ((q.1 : EReal) = p.1 ∧ p.2.toInt ≤ q.2.toInt)

theorem ahead_refl (a : Ideal .f32 × BitVec 32) : Ahead a a := Or.inr ⟨rfl, le_rfl⟩

theorem ahead_trans (a b c : Ideal .f32 × BitVec 32) (h : Ahead a b) (h' : Ahead b c) : Ahead a c := by
  rcases h with h | ⟨h, i⟩ <;> rcases h' with h' | ⟨h', i'⟩
  · exact Or.inl (lt_trans h' h)
  · exact Or.inl (lt_of_eq_of_lt h' h)
  · exact Or.inl (lt_of_lt_of_eq h' h)
  · exact Or.inr ⟨h'.trans h, i.trans i'⟩

theorem select_bool {α : Type} (p : Bool) (x y : α) : Scalar.select (BitVec.ofBool p) x y = if p = true then x else y := by
  cases p <;> rfl

theorem ori_bool (p q : Bool) : IntOp.ori (BitVec.ofBool p) (BitVec.ofBool q) = BitVec.ofBool (p || q) := by
  cases p <;> cases q <;> rfl

theorem andi_bool (p q : Bool) : IntOp.andi (BitVec.ofBool p) (BitVec.ofBool q) = BitVec.ofBool (p && q) := by
  cases p <;> cases q <;> rfl

/-- The reducer keeps the first pair when its value is greater, or is the same at a lesser column; else the second. -/
theorem reducer_eq (a b : Ideal .f32 × BitVec 32) :
    (((b.1 : EReal) < a.1 ∨ ((a.1 : EReal) = b.1 ∧ a.2.toInt < b.2.toInt)) ∧ reducer_argmax_f32_i32 a b = a)
      ∨ (¬ ((b.1 : EReal) < a.1 ∨ ((a.1 : EReal) = b.1 ∧ a.2.toInt < b.2.toInt)) ∧ reducer_argmax_f32_i32 a b = b) := by
  obtain ⟨x, m⟩ := a
  obtain ⟨y, n⟩ := b
  have key : reducer_argmax_f32_i32 ((x, m) : Ideal .f32 × BitVec 32) (y, n)
      = (if (y : EReal) < x then x else y, if (y : EReal) < x ∨ ((x : EReal) = y ∧ m.toInt < n.toInt) then m else n) := by
    simp only [reducer_argmax_f32_i32, Ideal.cmpf_def, Ideal.cmp, IntOp.cmpi, select_bool, ori_bool, andi_bool, ne_eq,
      not_true_eq_false, decide_false, Bool.or_false, Bool.or_eq_true, Bool.and_eq_true, decide_eq_true_eq, BitVec.slt]
  rw [key]
  dsimp only
  by_cases h : (y : EReal) < x
  · exact Or.inl ⟨Or.inl h, by rw [if_pos h, if_pos (Or.inl h)]⟩
  · by_cases h' : (x : EReal) = y ∧ m.toInt < n.toInt
    · exact Or.inl ⟨Or.inr h', by rw [if_neg h, if_pos (Or.inr h')]; exact congrArg (fun t => (t, m)) h'.1.symm⟩
    · exact Or.inr ⟨fun t => t.elim h h', by rw [if_neg h, if_neg fun t => t.elim h h']⟩

theorem reducer_one (a b : Ideal .f32 × BitVec 32) : reducer_argmax_f32_i32 a b = a ∨ reducer_argmax_f32_i32 a b = b :=
  (reducer_eq a b).imp And.right And.right

theorem reducer_left (a b : Ideal .f32 × BitVec 32) : Ahead (reducer_argmax_f32_i32 a b) a := by
  rcases reducer_eq a b with ⟨-, h⟩ | ⟨hn, h⟩
  · rw [h]; exact ahead_refl a
  · rw [h]
    rcases lt_trichotomy (a.1 : EReal) b.1 with t | t | t
    · exact Or.inl t
    · exact Or.inr ⟨t, not_lt.mp fun i => hn (Or.inr ⟨t, i⟩)⟩
    · exact absurd (Or.inl t) hn

theorem reducer_right (a b : Ideal .f32 × BitVec 32) : Ahead (reducer_argmax_f32_i32 a b) b := by
  rcases reducer_eq a b with ⟨t, h⟩ | ⟨-, h⟩
  · rw [h]
    rcases t with t | ⟨t, i⟩
    · exact Or.inl t
    · exact Or.inr ⟨t.symm, i.le⟩
  · rw [h]; exact ahead_refl b

/-! ## The arg-max of a row -/

theorem drop_row (r : Fin 128) (n : Fin 100000) : reducesTo_S128x100000_S128_d1.drop (ix2 r n) = row r := by
  funext b
  match b with
  | ⟨0, _⟩ => rfl

theorem ix2_of_drop (r : Fin 128) (i : S128x100000.Idx) (h : reducesTo_S128x100000_S128_d1.drop i = row r) :
    i = ix2 r (i 1 : Fin 100000) := by
  have h0 : i 0 = r := congrFun h 0
  funext b
  match b with
  | ⟨0, _⟩ => exact h0
  | ⟨1, _⟩ => rfl

theorem toInt_lit (n : ℕ) (h : n < 2147483648) : (BitVec.ofNat 32 n).toInt = (n : ℤ) := by
  rw [BitVec.toInt_eq_toNat_cond, BitVec.toNat_ofNat, Nat.mod_eq_of_lt (by omega), if_pos (by omega)]

/-- The values of a row, by column number. -/
def cols (f : S128x100000.Idx → EReal) (r : Fin 128) (n : ℕ) : EReal := if h : n < 100000 then f (ix2 r (⟨n, h⟩ : Fin 100000)) else ⊥

theorem cols_lt (f : S128x100000.Idx → EReal) (r : Fin 128) (n : Fin 100000) : cols f r n.val = f (ix2 r n) := dif_pos n.isLt

/-- The arg-max of the reducer over a row whose values are above the initial one. -/
theorem pick (x : FVec Ideal S128x100000 .f32) (y : IVec S128x100000 32) (ix : FVec Ideal S_ .f32) (iy : IVec S_ 32) (r : Fin 128)
    (hx : ∀ i, (⊥ : EReal) < (x i : EReal)) (hiota : ∀ n : Fin 100000, y (ix2 r n) = BitVec.ofNat 32 n.val)
    (hinit : (ix (Shape.Idx.first h_S_) : EReal) = ⊥) :
    ∃ c, First (cols x r) 100000 c
      ∧ (Host.argReduce (F := Ideal) reducer_argmax_f32_i32 x y ix iy reducesTo_S128x100000_S128_d1 h_S_ (row r)).2 = BitVec.ofNat 32 c := by
  rw [Ideal.argReduce_eq_reduce2, Host.reduce2_eq_foldl_fiber]
  have hmem : ∀ q, q ∈ Host.argReduceFiber x y reducesTo_S128x100000_S128_d1 (row r)
      ↔ ∃ n : Fin 100000, q = (x (ix2 r n), BitVec.ofNat 32 n.val) := by
    intro q
    unfold Host.argReduceFiber
    simp only [List.mem_map, List.mem_filter, List.mem_finRange, true_and, decide_eq_true_eq]
    constructor
    · rintro ⟨k, hk, rfl⟩
      generalize S128x100000.rowMajor.symm k = i at hk ⊢
      obtain ⟨n, hn⟩ : ∃ n : Fin 100000, i = ix2 r n := ⟨i 1, ix2_of_drop r i hk⟩
      exact ⟨n, by rw [hn, hiota]⟩
    · rintro ⟨n, rfl⟩
      refine ⟨S128x100000.rowMajor (ix2 r n), ?_, ?_⟩
      · rw [Equiv.symm_apply_apply]; exact drop_row r n
      · rw [Equiv.symm_apply_apply, hiota]
  generalize Host.argReduceFiber x y reducesTo_S128x100000_S128_d1 (row r) = l at hmem ⊢
  generalize hb : (ix (Shape.Idx.first h_S_), iy (Shape.Idx.first h_S_)) = b
  have hb : (b.1 : EReal) = ⊥ := by rw [← hb]; exact hinit
  obtain ⟨f1, -, f3⟩ := foldl_ahead Ahead ahead_refl ahead_trans reducer_argmax_f32_i32 reducer_one reducer_left reducer_right l b
  generalize l.foldl reducer_argmax_f32_i32 b = p at f1 f3 ⊢
  have hp : p ∈ l := by
    rcases f1 with e | e
    · have t := f3 _ ((hmem _).mpr ⟨0, rfl⟩)
      rw [e] at t
      exfalso
      rcases t with t | t
      · rw [hb] at t; exact not_lt_bot t
      · rw [hb] at t
        exact (hx (ix2 r (0 : Fin 100000))).ne' t.1
    · exact e
  obtain ⟨c, hc⟩ := (hmem p).mp hp
  refine ⟨c.val, ⟨c.isLt, fun k hk => ?_⟩, by rw [hc]⟩
  have t := f3 _ ((hmem _).mpr ⟨(⟨k, hk⟩ : Fin 100000), rfl⟩)
  rw [hc] at t
  have ek : cols x r k = x (ix2 r (⟨k, hk⟩ : Fin 100000)) := cols_lt _ r ⟨k, hk⟩
  rw [ek, cols_lt x r c]
  refine t.imp id (And.imp_right fun q => ?_)
  have q' : (BitVec.ofNat 32 c.val).toInt ≤ (BitVec.ofNat 32 k).toInt := q
  have := c.isLt
  rw [toInt_lit _ (by omega), toInt_lit _ (by omega)] at q'
  exact_mod_cast q'

theorem argmax (h : (ops (F := Ideal)).Forall (Eqn W)) (hy : ∀ i, (⊥ : EReal) < (val W r_v28 i : EReal)) (r : Fin 128) :
    ∃ c, First (cols (fun i => (val W r_v28 i : EReal)) r) 100000 c ∧ val W r_v29 (row r) = BitVec.ofNat 32 c := by
  obtain ⟨-, h3, -⟩ := rest h
  obtain ⟨h1, h2, h3, -, h5⟩ := h3
  obtain ⟨c, hc, e⟩ := pick (val W r_v28) (val W a.v0) (val W a.cst) (val W a.c) r hy
    (fun n => by rw [eqn_nullary h1]; rfl) (by rw [eqn_nullary h2]; exact fl_bot)
  exact ⟨c, hc, (congrFun (eqn_quaternary h5 (by decide) (by decide) (by decide) (by decide)) (row r)).trans e⟩

/-! ## The scatter -/

/-- A fold of overwrites by one value: that value if any of them applies. -/
theorem foldl_write {α β : Type} (P : β → Prop) [DecidablePred P] (v : β → α) (w : α) (l : List β) (hv : ∀ n ∈ l, P n → v n = w) (x : α) :
    (l.foldl (fun a n => if P n then v n else a) x = w ∧ ∃ n ∈ l, P n) ∨ (l.foldl (fun a n => if P n then v n else a) x = x ∧ ∀ n ∈ l, ¬ P n) := by
  induction l generalizing x with
  | nil => exact Or.inr ⟨rfl, fun n hn => absurd hn List.not_mem_nil⟩
  | cons b l ih =>
    have hv' : ∀ n ∈ l, P n → v n = w := fun n hn => hv n (List.mem_cons_of_mem b hn)
    rw [List.foldl_cons]
    by_cases hb : P b
    · rw [if_pos hb, hv b List.mem_cons_self hb]
      rcases ih hv' w with h | h
      · exact Or.inl ⟨h.1, b, List.mem_cons_self, hb⟩
      · exact Or.inl ⟨h.1, b, List.mem_cons_self, hb⟩
    · rw [if_neg hb]
      rcases ih hv' x with ⟨h, n, hn, hp⟩ | ⟨h, hp⟩
      · exact Or.inl ⟨h, n, List.mem_cons_of_mem b hn, hp⟩
      · refine Or.inr ⟨h, fun n hn => ?_⟩
        rcases List.mem_cons.mp hn with rfl | hn
        · exact hb
        · exact hp n hn

abbrev writes : ScatterDims S128x100000 S128x2 S128 := scatter_S128x100000_S128x2_S128_n_01_01_1

theorem start0 (q : Fin 128) (idx : IVec S128x2 32) : writes.start (row q) idx 0 = (idx (ix2 q (0 : Fin 2))).toInt := by
  unfold ScatterDims.start
  rw [dif_pos (by decide)]
  refine congrArg (fun t => (idx t).toInt) (funext fun b => ?_)
  match b with
  | ⟨0, _⟩ => rfl
  | ⟨1, _⟩ => rfl

theorem start1 (q : Fin 128) (idx : IVec S128x2 32) : writes.start (row q) idx 1 = (idx (ix2 q (1 : Fin 2))).toInt := by
  unfold ScatterDims.start
  rw [dif_pos (by decide)]
  refine congrArg (fun t => (idx t).toInt) (funext fun b => ?_)
  match b with
  | ⟨0, _⟩ => rfl
  | ⟨1, _⟩ => rfl

theorem window0 (j : S128.Idx) (a : Fin 2) : writes.window j a = 0 := by
  unfold ScatterDims.window
  rw [dif_neg (by revert a; decide)]

/-- The scatter writes its update at the column its index names, in every row. -/
theorem scatter_at (x : FVec Ideal S128x100000 .f32) (idx : IVec S128x2 32) (upd : FVec Ideal S128 .f32)
    (col : Fin 128 → Fin 100000)
    (h0 : ∀ r : Fin 128, idx (ix2 r (0 : Fin 2)) = BitVec.ofNat 32 r.val)
    (h1 : ∀ r : Fin 128, idx (ix2 r (1 : Fin 2)) = BitVec.ofNat 32 (col r).val)
    (r : Fin 128) (n : Fin 100000) :
    Host.scatter writes (fun _ b => b) x idx upd (ix2 r n) = if n = col r then upd (row r) else x (ix2 r n) := by
  have hres : ∀ q : Fin 128, writes.resultIdx? (row q) idx = some (ix2 q (col q)) := by
    intro q
    have hj := q.isLt
    have hc := (col q).isLt
    have s0 : writes.start (row q) idx 0 + writes.window (row q) 0 = (q.val : ℤ) := by
      rw [start0, window0, h0, toInt_lit _ (by omega)]; simp
    have s1 : writes.start (row q) idx 1 + writes.window (row q) 1 = ((col q).val : ℤ) := by
      rw [start1, window0, h1, toInt_lit _ (by omega)]; simp
    unfold ScatterDims.resultIdx?
    rw [dif_pos]
    · refine congrArg some (funext fun a => Fin.ext ?_)
      match a with
      | ⟨0, _⟩ => exact (congrArg Int.toNat s0).trans (Int.toNat_natCast _)
      | ⟨1, _⟩ => exact (congrArg Int.toNat s1).trans (Int.toNat_natCast _)
    · intro a
      match a with
      | ⟨0, _⟩ =>
        have t : (0 : ℤ) ≤ q.val ∧ (q.val : ℤ) < 128 := ⟨by omega, by omega⟩
        rw [← s0] at t; exact t
      | ⟨1, _⟩ =>
        have t : (0 : ℤ) ≤ (col q).val ∧ ((col q).val : ℤ) < 100000 := ⟨by omega, by omega⟩
        rw [← s1] at t; exact t
  have hrow : ∀ j : S128.Idx, writes.resultIdx? j idx = some (ix2 r n) ↔ j = row r ∧ n = col r := by
    intro j
    obtain ⟨q, rfl⟩ : ∃ q, j = row q := ⟨j 0, funext fun b => by match b with | ⟨0, _⟩ => rfl⟩
    rw [hres, Option.some_inj]
    constructor
    · intro e
      have e0 : q = r := congrFun e 0
      have e1 : col q = n := congrFun e 1
      rw [← e1, e0]; exact ⟨rfl, rfl⟩
    · rintro ⟨e, e'⟩
      have e0 : q = r := congrFun e 0
      rw [e0, e']
  rw [← Routing.scatterIn_finRange, Routing.scatterIn_at]
  rcases foldl_write (fun k => writes.resultIdx? (S128.rowMajor.symm k) idx = some (ix2 r n)) (fun k => upd (S128.rowMajor.symm k)) (upd (row r))
    (List.finRange S128.numel) (fun k _ hk => congrArg upd ((hrow _).mp hk).1) (x (ix2 r n)) with ⟨e, k, -, hk⟩ | ⟨e, hk⟩
  · rw [if_pos ((hrow _).mp hk).2]; exact e
  · rw [if_neg]
    · exact e
    · intro hn
      refine hk (S128.rowMajor (row r)) (List.mem_finRange _) ?_
      rw [hrow, Equiv.symm_apply_apply]
      exact ⟨rfl, hn⟩

/-! ## The result -/

/-- An index that is not negative keeps its value when a negative one would have the size added. -/
theorem wrap (n : ℕ) (hn : n < 2147483648) (m : BitVec 32) :
    Scalar.select (IntOp.cmpi .slt (BitVec.ofNat 32 n) 0#32) m (BitVec.ofNat 32 n) = BitVec.ofNat 32 n := by
  have h : (BitVec.ofNat 32 n).slt 0#32 = false := by
    simp only [BitVec.slt, toInt_lit n hn, BitVec.toInt_zero, decide_eq_false_iff_not, not_lt]
    omega
  unfold IntOp.cmpi
  rw [select_bool]
  dsimp only
  rw [h]; rfl

/-- A scalar broadcast over the rows. -/
theorem rows_val {T : EltTy} {x : TRef sig ⟨S_, T⟩} {y : TRef sig ⟨S128, T⟩}
    (h : Eqn W (TRef.unary x y (broadcastInDim S128 ![] bcast_S_S128))) (hn : x.ref ≠ y.ref) (i : S128.Idx) : val W y i = val W x pt0 := by
  rw [eqn_unary h hn]
  exact congrArg (val W x) (funext fun a => a.elim0)

/-- A column of row values. -/
theorem column_val {T : EltTy} {x : TRef sig ⟨S128, T⟩} {y : TRef sig ⟨S128x1, T⟩}
    (h : Eqn W (TRef.unary x y (broadcastInDim S128x1 ![0] bcast_S128_S128x1_0))) (hn : x.ref ≠ y.ref) (r : Fin 128) :
    val W y (ix2 r (0 : Fin 1)) = val W x (row r) := by
  rw [eqn_unary h hn]
  exact broadcastInDim_apply _ _ _ _ _ fun a => by match a with | ⟨0, _⟩ => rfl

/-- The reference's result, given the columns of the arg-max and that the softmax is real: one at the column, zero elsewhere. -/
theorem onehot (h : (ops (F := Ideal)).Forall (Eqn W)) (y : S128x100000.Idx → ℝ) (hy : ∀ i, val W r_v28 i = (y i : EReal))
    (col : Fin 128 → Fin 100000) (hcol : ∀ r, val W r_v29 (row r) = BitVec.ofNat 32 (col r).val) (r : Fin 128) (n : Fin 100000) :
    val W r_v48 (ix2 r n) = if n = col r then fl 0x3F800000#32 else fl 0x00000000#32 := by
  obtain ⟨-, -, h4⟩ := rest h
  obtain ⟨h1, h2, h3, h4, h5, h6, h7, h8, h9, h10, h11, h12, h13, h14, h15, h16, h17, h18, h19, h20, h21, h22, h23, h24, h25⟩ := h4
  have e10 : ∀ q, val W r_v36 (row q) = BitVec.ofNat 32 q.val := by
    intro q
    refine (congrFun (eqn_ternary h10 (by decide) (by decide) (by decide)) (row q)).trans ?_
    change Scalar.select (val W r_v33 (row q)) (val W r_v35 (row q)) (val W r_v31 (row q)) = _
    rw [eqn_binary h6 (by decide) (by decide)]
    change Scalar.select (IntOp.cmpi .slt (val W r_v31 (row q)) (val W r_v32 (row q))) (val W r_v35 (row q)) (val W r_v31 (row q)) = _
    rw [rows_val h5 (by decide), eqn_nullary h4, eqn_nullary h3]
    exact wrap q.val (by have := q.isLt; omega) _
  have e17 : ∀ q, val W r_v41 (row q) = BitVec.ofNat 32 (col q).val := by
    intro q
    refine (congrFun (eqn_ternary h17 (by decide) (by decide) (by decide)) (row q)).trans ?_
    change Scalar.select (val W r_v38 (row q)) (val W r_v40 (row q)) (val W r_v29 (row q)) = _
    rw [eqn_binary h13 (by decide) (by decide)]
    change Scalar.select (IntOp.cmpi .slt (val W r_v29 (row q)) (val W r_v37 (row q))) (val W r_v40 (row q)) (val W r_v29 (row q)) = _
    rw [rows_val h12 (by decide), eqn_nullary h11, hcol]
    exact wrap (col q).val (by have := (col q).isLt; omega) _
  have e20 : val W r_v44 = fun j => concatenate S128x2 1 [⟨S128x1, val W r_v42⟩, ⟨S128x1, val W r_v43⟩] concatenates_S128x1_S128x1_S128x2_d1 j :=
    eqn_binary h20 (by decide) (by decide)
  have c0 : ∀ q : Fin 128, val W r_v44 (ix2 q (0 : Fin 2)) = BitVec.ofNat 32 q.val := by
    intro q
    rw [e20, ← e10, ← column_val h18 (by decide)]
    exact concatenate_pair_apply_left (s₁ := S128x1) (s₂ := S128x1) (1 : Fin S128x2.rank) (val W r_v42) (val W r_v43) _ (ix2 q (0 : Fin 2)) rfl
      (ix2 q (0 : Fin 1)) fun b => by match b with | ⟨0, _⟩ => rfl | ⟨1, _⟩ => rfl
  have c1 : ∀ q : Fin 128, val W r_v44 (ix2 q (1 : Fin 2)) = BitVec.ofNat 32 (col q).val := by
    intro q
    rw [e20, ← e17, ← column_val h19 (by decide)]
    exact concatenate_pair_apply_right (s₁ := S128x1) (s₂ := S128x1) (1 : Fin S128x2.rank) (val W r_v42) (val W r_v43) _ (ix2 q (1 : Fin 2)) rfl rfl
      (ix2 q (0 : Fin 1))
      (fun b hb => by match b with | ⟨0, _⟩ => rfl | ⟨1, _⟩ => exact absurd rfl hb) rfl
  have e23 : val W r_v46 (ix2 r n) = if n = col r then fl 0x3F800000#32 else fl 0x00000000#32 := by
    refine (congrFun (eqn_ternary h23 (by decide) (by decide) (by decide)) (ix2 r n)).trans ?_
    refine (scatter_at _ _ _ col c0 c1 r n).trans ?_
    rw [rows_val h22 (by decide), eqn_nullary h21, fill_val h2 (by decide), eqn_nullary h1]
    rfl
  have real : ∃ w : ℝ, (val W r_v46 (ix2 r n) : EReal) = (w : EReal) := by
    rw [e23]
    split
    · exact ⟨1, fl_one⟩
    · exact ⟨0, fl_zero⟩
  rw [← e23]
  obtain ⟨w, hw⟩ := real
  refine (congrFun (eqn_binary h25 (by decide) (by decide)) (ix2 r n)).trans ?_
  change (val W r_v47 (ix2 r n) : EReal) + (val W r_v28 (ix2 r n) : EReal) = _
  rw [eqn_binary h24 (by decide) (by decide)]
  change (val W r_v46 (ix2 r n) : EReal) - (val W r_v28 (ix2 r n) : EReal) + (val W r_v28 (ix2 r n) : EReal) = _
  rw [hw, hy, ← EReal.coe_sub, ← EReal.coe_add, sub_add_cancel]

end Cert.Proof.Ref

end
-- ==== Proof.Agree.lean ====
/-
  The two results agree: over finite logits both programs leave one at the first column of a row's greatest perturbed
  logit and zero elsewhere.
-/
module

public import proofs.«01_k».proof.Defs
public import proofs.«01_k».proof.Proof.KernelPick
public import proofs.«01_k».proof.Proof.RefPick
public import proofs.«01_k».proof.Proof.RefRun
public import Idealize.ShloMosaic.Lib.ReduceAll

@[expose] public section

noncomputable section

namespace Cert.Proof.Agree

open Idealize.ShloMosaic Idealize.ShloMosaic.TcCoe Idealize.SL.Sem
open Cert.Proof.Host Cert.Proof.Noise Cert.Proof.First

/-! ## The precondition -/

instance facts : Cert.Pre_finite_logits.Facts := ⟨by decide, by decide, by decide⟩

theorem fl_top : fl 0x7F800000#32 = ⊤ := by
  simp [fl, Ideal.ofBits, Ideal.ieee]

/-- A value whose absolute value is below +∞ is a real. -/
theorem real_of_abs (x : EReal) (h : max x (-x) < ⊤) : ∃ a : ℝ, x = (a : EReal) := by
  induction x using EReal.rec with
  | bot => exact absurd h (by simp)
  | top => exact absurd h (by simp)
  | coe a => exact ⟨a, rfl⟩

/-- The precondition makes every logit a real. -/
theorem finite (A : FVec Ideal Cert.Pre_finite_logits.S128x100000 .f32) (hA : Cert.Pre_finite_logits.fn (F := Ideal) A = fun _ => 1#1)
    (i : Cert.Pre_finite_logits.S128x100000.Idx) : ∃ a : ℝ, (A i : EReal) = (a : EReal) := by
  have t : cmpf (F := Ideal) .olt (Host.absf A) _ i = 1#1 :=
    Host.reduce_andi_eq_one (t := Cert.Pre_finite_logits.S_) _ _ _ _ (fun a => a.elim0) (congrFun hA _) i (funext fun b => b.elim0)
  refine real_of_abs _ ?_
  change Ideal.cmp .olt (max (A i : EReal) (-(A i : EReal))) (fl 0x7F800000#32) = 1#1 at t
  rw [fl_top] at t
  unfold Ideal.cmp at t
  by_contra hn
  dsimp only at t
  rw [decide_eq_false hn] at t
  exact absurd t (by decide)

/-! ## The reference's result -/

open Cert.ReferenceIdeal Cert.Proof.Ref in
theorem ref_onehot {W : Valuation τ sig (Elt Ideal)} (h : (ops (F := Ideal)).Forall (Eqn W))
    (hA : ∀ i, ∃ a : ℝ, (val W r_arg0 i : EReal) = (a : EReal)) (r : Fin 128) (b : ℕ)
    (hb : First (Cert.KernelIdeal.Own.pert (val W r_arg0) r) 100000 b) (n : Fin 100000) :
    (val W r_v48 (ix2 r n) : EReal) = if n.val = b then fl 0x3F800000#32 else fl 0x00000000#32 := by
  have hz : ∀ i, ∃ z : ℝ, (val W r_v17 i : EReal) = (z : EReal) := by
    intro i
    obtain ⟨a, ha⟩ := hA i
    obtain ⟨g, hg⟩ := noise_real (place i)
    exact ⟨a - g, by rw [perturbed h, ha, hg, EReal.coe_sub]⟩
  choose z hz using hz
  have hpert : ∀ (r : Fin 128) (k : Fin 100000), Cert.KernelIdeal.Own.pert (val W r_arg0) r k.val = (z (ix2 r k) : EReal) := by
    intro r k
    rw [← hz, perturbed h]
    exact dif_pos k.isLt
  have hy : ∀ i, ∃ y : ℝ, (val W r_v28 i : EReal) = (y : EReal) := by
    intro i
    obtain ⟨M, S, hS, e⟩ := softmax h z hz (i 0)
    obtain ⟨r', k', rfl⟩ : ∃ (r' : Fin 128) (k' : Fin 100000), i = ix2 r' k' :=
      ⟨i 0, i 1, funext fun a => by match a with | ⟨0, _⟩ => rfl | ⟨1, _⟩ => rfl⟩
    exact ⟨_, e k'⟩
  choose y hy using hy
  have hord : ∀ (r : Fin 128) (j k : Fin 100000), y (ix2 r j) < y (ix2 r k) ↔ z (ix2 r j) < z (ix2 r k) := by
    intro r j k
    obtain ⟨M, S, hS, e⟩ := softmax h z hz r
    have ej : y (ix2 r j) = Real.exp (z (ix2 r j) - M) / S := EReal.coe_injective ((hy _).symm.trans (e j))
    have ek : y (ix2 r k) = Real.exp (z (ix2 r k) - M) / S := EReal.coe_injective ((hy _).symm.trans (e k))
    rw [ej, ek, div_lt_div_iff_of_pos_right hS, Real.exp_lt_exp, sub_lt_sub_iff_right]
  have hcol : ∀ r : Fin 128, ∃ c : Fin 100000, First (Cert.KernelIdeal.Own.pert (val W r_arg0) r) 100000 c.val
      ∧ val W r_v29 (row r) = BitVec.ofNat 32 c.val := by
    intro r
    obtain ⟨c, hc, e⟩ := argmax h (fun i => by rw [hy]; exact EReal.bot_lt_coe _) r
    refine ⟨⟨c, hc.1⟩, hc.transport fun j k hj hk => ?_, e⟩
    rw [hpert r ⟨j, hj⟩, hpert r ⟨k, hk⟩, EReal.coe_lt_coe_iff, ← hord, ← EReal.coe_lt_coe_iff, ← hy, ← hy,
      ← cols_lt (fun i => (val W r_v28 i : EReal)) r ⟨j, hj⟩, ← cols_lt (fun i => (val W r_v28 i : EReal)) r ⟨k, hk⟩]
  choose col hc hv using hcol
  rw [onehot h y hy col hv r n]
  refine if_congr ?_ rfl rfl
  rw [hb.unique (hc r)]
  exact Fin.ext_iff

/-! ## Agreement -/

/-- The reference's final array is the kernel's. -/
theorem agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hm : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (hA : Cert.Pre_finite_logits.fn (F := Ideal) (m ((c.tc : Thread Cert.KernelIdeal.nD Cert.KernelIdeal.τ).loc Cert.KernelIdeal.main_arg0)) = fun _ => 1#1) :
    Ref.ends m' c (Proc.devRef .tc Cert.ReferenceIdeal.main_v48) = Cert.KernelIdeal.Own.res m c := by
  have hreal := finite _ hA
  have harg : val (Ref.ends m' c) Ref.r_arg0 = m ((c.tc : Thread Cert.KernelIdeal.nD Cert.KernelIdeal.τ).loc Cert.KernelIdeal.main_arg0) :=
    (Ref.ends_arg m' c).trans hm
  funext i
  obtain ⟨r, n, rfl⟩ : ∃ (r : Fin 128) (n : Fin 100000), i = ix2 r n :=
    ⟨i 0, i 1, funext fun a => by match a with | ⟨0, _⟩ => rfl | ⟨1, _⟩ => rfl⟩
  obtain ⟨b, hb, e⟩ := Cert.KernelIdeal.Own.res_onehot m c hreal r
  have t := ref_onehot (Ref.ends_eqns m' c) (by rw [harg]; exact hreal) r b (by rw [harg]; exact hb) n
  exact t.trans (e n).symm

end Cert.Proof.Agree

end
-- ==== Proof.lean ====
/-
  The certificate: the witnesses of the programs' stated facts, the frames, and the agreement of the two results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Agree

@[expose] public section

noncomputable section

namespace Cert.Proof

open Idealize.ShloMosaic Idealize.SL.Sem

/-- The two programs, from one argument, end with one result. -/
theorem algebraic : Cert.algebraic_KernelIdeal_ReferenceIdeal_pre_finite_logits := by
  intro m g m' g' hpre hm
  refine ⟨fun c => Cert.KernelIdeal.Own.res m c, θ_run_mono (Cert.KernelIdeal.Own.run_value m g) fun _ h => h.1,
    θ_run_mono (Ref.run m' g') fun _ h c => ⟨?_, (h.1 c _).trans (Ref.ends_arg m' c)⟩⟩
  exact (h.1 c _).trans (Agree.agree m m' c (hm c) (hpre c))

theorem claim : Cert.Claim := ⟨Cert.Kernel.Gen.facts, Cert.KernelIdeal.Gen.facts, Cert.ReferenceIdeal.Gen.facts, Agree.facts,
  Frames.kernel,
  fun m g _ => Frames.kernel_ideal Ideal m g,
  fun m g _ => Frames.kernel_ideal Ideal m g,
  fun m g _ => Frames.reference m g,
  fun m g _ => Frames.reference m g,
  trivial,
  algebraic⟩

end Cert.Proof

end
